-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_spread [hPre_finite_and_spread : Cert.Pre_finite_and_spread.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_spread.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite_and_spread.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.1 = (fun _ => 1#1)
    ∧ (Cert.Pre_finite_and_spread.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_spread [hPre_finite_and_spread : Cert.Pre_finite_and_spread.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_spread.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite_and_spread.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.1 = (fun _ => 1#1)
    ∧ (Cert.Pre_finite_and_spread.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_and_spread [hKernelIdeal : Cert.KernelIdeal.Facts] [hPre_finite_and_spread : Cert.Pre_finite_and_spread.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_spread m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_and_spread [hReferenceIdeal : Cert.ReferenceIdeal.Facts] [hPre_finite_and_spread : Cert.Pre_finite_and_spread.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_spread m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_and_spread [hKernelIdeal : Cert.KernelIdeal.Facts] [hReferenceIdeal : Cert.ReferenceIdeal.Facts] [hPre_finite_and_spread : Cert.Pre_finite_and_spread.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_spread m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v0_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_v0_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v197) = v0 c
          ∧ r.2.mem ((c.tc : Thread Cert.ReferenceIdeal.nD Cert.ReferenceIdeal.τ).loc Cert.ReferenceIdeal.main_v196) = v1 c
          ∧ r.2.mem ((c.tc : Thread Cert.ReferenceIdeal.nD Cert.ReferenceIdeal.τ).loc Cert.ReferenceIdeal.main_v203) = v2 c
          ∧ r.2.mem ((c.tc : Thread Cert.ReferenceIdeal.nD Cert.ReferenceIdeal.τ).loc Cert.ReferenceIdeal.main_v209) = v3 c
          ∧ r.2.mem ((c.tc : Thread Cert.ReferenceIdeal.nD Cert.ReferenceIdeal.τ).loc Cert.ReferenceIdeal.main_v218) = v4 c
          ∧ r.2.mem ((c.tc : Thread Cert.ReferenceIdeal.nD Cert.ReferenceIdeal.τ).loc Cert.ReferenceIdeal.main_v214) = v5 c
          ∧ r.2.mem ((c.tc : Thread Cert.ReferenceIdeal.nD Cert.ReferenceIdeal.τ).loc Cert.ReferenceIdeal.main_v219) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_and_spread : Cert.Pre_finite_and_spread.Facts),
    quiescent_Kernel (hKernel := hKernel)
    ∧ quiescent_KernelIdeal (hKernelIdeal := hKernelIdeal)
    ∧ quiescent_KernelIdeal_pre_finite_and_spread (hKernelIdeal := hKernelIdeal) (hPre_finite_and_spread := hPre_finite_and_spread)
    ∧ quiescent_ReferenceIdeal (hReferenceIdeal := hReferenceIdeal)
    ∧ quiescent_ReferenceIdeal_pre_finite_and_spread (hReferenceIdeal := hReferenceIdeal) (hPre_finite_and_spread := hPre_finite_and_spread)
    ∧ preserves_Kernel_KernelIdeal
    ∧ algebraic_KernelIdeal_ReferenceIdeal_pre_finite_and_spread (hKernelIdeal := hKernelIdeal) (hReferenceIdeal := hReferenceIdeal) (hPre_finite_and_spread := hPre_finite_and_spread)
-- ==== Pre_finite_and_spread.lean ====
abbrev S8192x256 : Shape := ⟨2, ![8192, 256]⟩
abbrev S4x1024x256 : Shape := ⟨3, ![4, 1024, 256]⟩
abbrev S4x1x256 : Shape := ⟨3, ![4, 1, 256]⟩
abbrev S_ : Shape := ⟨0, ![]⟩
abbrev S4 : Shape := ⟨1, ![4]⟩

class Facts : Prop where
  slices_S4x1024x256_S4x1x256_0_0_0 : S4x1024x256.Slices ![0, 0, 0] S4x1x256
  bcast_S_S8192x256 : S_.BroadcastsInDim S8192x256 (![] : Fin 0 → Fin S8192x256.rank)
  bcast_S_S4x1024x256 : S_.BroadcastsInDim S4x1024x256 (![] : Fin 0 → Fin S4x1024x256.rank)
  bcast_S4x1x256_S4x1024x256_0_1_2 : S4x1x256.BroadcastsInDim S4x1024x256 (![0, 1, 2] : Fin 3 → Fin S4x1024x256.rank)
  reducesTo_S4x1024x256_S4_d1_2 : S4x1024x256.ReducesTo [1, 2] S4
  h_S_ : 0 < S_.numel

variable [Facts]

def fn {F : FTy → Type} [FloatOps F] (main_arg0 : FVec F S8192x256 .f32) (main_arg1 : FVec F S4x1024x256 .f32) : IVec S8192x256 1 × IVec S4x1024x256 1 × IVec S4 1 :=
  let main_v0 : FVec F S4x1x256 .f32 := (extractStridedSlice S4x1x256 ![0, 0, 0] · slices_S4x1024x256_S4x1x256_0_0_0) main_arg1
  let main_v1 : FVec F S8192x256 .f32 := Host.absf main_arg0
  let main_cst : FVec F S_ .f32 := constant S_ .f32 0x7F800000#32
  let main_v2 : FVec F S8192x256 .f32 := broadcastInDim S8192x256 ![] bcast_S_S8192x256 main_cst
  let main_v3 : IVec S8192x256 1 := cmpf .olt main_v1 main_v2
  let main_v4 : FVec F S4x1024x256 .f32 := Host.absf main_arg1
  let main_cst_0 : FVec F S_ .f32 := constant S_ .f32 0x7F800000#32
  let main_v5 : FVec F S4x1024x256 .f32 := broadcastInDim S4x1024x256 ![] bcast_S_S4x1024x256 main_cst_0
  let main_v6 : IVec S4x1024x256 1 := cmpf .olt main_v4 main_v5
  let main_v7 : FVec F S4x1024x256 .f32 := broadcastInDim S4x1024x256 ![0, 1, 2] bcast_S4x1x256_S4x1024x256_0_1_2 main_v0
  let main_v8 : IVec S4x1024x256 1 := cmpf .une main_arg1 main_v7
  let main_c : IVec S_ 1 := constantI S_ 1 0#1
  let main_v9 : IVec S4 1 := (fun x v => Host.reduce IntOp.ori x v reducesTo_S4x1024x256_S4_d1_2 h_S_) main_v8 main_c
  (main_v3, main_v6, main_v9)
-- ==== Kernel.lean ====
abbrev S8192x256 : Shape := ⟨2, ![8192, 256]⟩
abbrev S4x1024x256 : Shape := ⟨3, ![4, 1024, 256]⟩
abbrev S8192x1 : Shape := ⟨2, ![8192, 1]⟩
abbrev S8 : Shape := ⟨1, ![8]⟩
abbrev S1 : Shape := ⟨1, ![1]⟩
abbrev S_ : Shape := ⟨0, ![]⟩
abbrev S8192x4 : Shape := ⟨2, ![8192, 4]⟩
abbrev S1024x256 : Shape := ⟨2, ![1024, 256]⟩
abbrev S1024x1 : Shape := ⟨2, ![1024, 1]⟩
abbrev S4x1024 : Shape := ⟨2, ![4, 1024]⟩
abbrev S1x1024x256 : Shape := ⟨3, ![1, 1024, 256]⟩
abbrev S1024 : Shape := ⟨1, ![1024]⟩
abbrev S1x1024 : Shape := ⟨2, ![1, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩
abbrev S1x512x256 : Shape := ⟨3, ![1, 512, 256]⟩
abbrev S1x1x1 : Shape := ⟨3, ![1, 1, 1]⟩

abbrev nBuf : Space → Nat
  | .hbm => 28
  | .vmem => 19
  | .smem => 1
  | _ => 0

abbrev bufTy : (tb : Table) → Fin (tcTables nBuf tb) → BufTy
  | .hbm, ⟨0, _⟩ => ⟨S8192x256, .f32⟩
  | .hbm, ⟨1, _⟩ => ⟨S4x1024x256, .f32⟩
  | .hbm, ⟨2, _⟩ => ⟨S8192x256, .f32⟩
  | .hbm, ⟨3, _⟩ => ⟨S8192x256, .f32⟩
  | .hbm, ⟨4, _⟩ => ⟨S8192x1, .i32⟩
  | .hbm, ⟨5, _⟩ => ⟨S8192x1, .i32⟩
  | .hbm, ⟨6, _⟩ => ⟨S8192x1, .i32⟩
  | .hbm, ⟨7, _⟩ => ⟨S8192x1, .i32⟩
  | .hbm, ⟨8, _⟩ => ⟨S8, .f32⟩
  | .hbm, ⟨9, _⟩ => ⟨S1, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S1, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S1, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S1, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S8192x4, .i32⟩
  | .local _ .vmem, ⟨0, _⟩ => ⟨S1024x256, .f32⟩
  | .local _ .vmem, ⟨1, _⟩ => ⟨S1024x256, .f32⟩
  | .local _ .vmem, ⟨2, _⟩ => ⟨S4x1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x1, .i32⟩
  | .local _ .vmem, ⟨8, _⟩ => ⟨S1024x1, .i32⟩
  | .local _ .vmem, ⟨9, _⟩ => ⟨S1024x1, .i32⟩
  | .local _ .vmem, ⟨10, _⟩ => ⟨S1024x1, .i32⟩
  | .local _ .vmem, ⟨11, _⟩ => ⟨S1024x1, .i32⟩
  | .local _ .vmem, ⟨12, _⟩ => ⟨S1024x1, .i32⟩
  | .local _ .vmem, ⟨13, _⟩ => ⟨S1024x1, .i32⟩
  | .local _ .vmem, ⟨14, _⟩ => ⟨S1024x1, .i32⟩
  | .local _ .vmem, ⟨15, _⟩ => ⟨S4x1024x256, .bf16⟩
  | .local _ .vmem, ⟨16, _⟩ => ⟨S4x1024x256, .bf16⟩
  | .local _ .vmem, ⟨17, _⟩ => ⟨S4x1024x256, .bf16⟩
  | .local _ .vmem, ⟨18, _⟩ => ⟨S4x1024, .f32⟩
  | .local _ .smem, ⟨0, _⟩ => ⟨S8, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_call0_v0_2 : Ref sig .tc := ⟨.hbm, 4, rfl⟩
abbrev main_call0_v0_3 : Ref sig .tc := ⟨.hbm, 5, rfl⟩
abbrev main_call0_v0_4 : Ref sig .tc := ⟨.hbm, 6, rfl⟩
abbrev main_call0_v0_5 : Ref sig .tc := ⟨.hbm, 7, rfl⟩
abbrev main_call0_v0_6 : Ref sig .tc := ⟨.hbm, 8, rfl⟩
abbrev main_call0_v1 : Ref sig .tc := ⟨.hbm, 9, rfl⟩
abbrev main_call0_v2 : Ref sig .tc := ⟨.hbm, 10, rfl⟩
abbrev main_call0_cst : Ref sig .tc := ⟨.hbm, 11, rfl⟩
abbrev main_v0_2 : Ref sig .tc := ⟨.hbm, 12, rfl⟩
abbrev main_call0_v4 : Ref sig .tc := ⟨.hbm, 13, rfl⟩
abbrev main_call0_v5 : Ref sig .tc := ⟨.hbm, 14, rfl⟩
abbrev main_call0_cst_0 : Ref sig .tc := ⟨.hbm, 15, rfl⟩
abbrev main_v0_3 : Ref sig .tc := ⟨.hbm, 16, rfl⟩
abbrev main_call0_v7 : Ref sig .tc := ⟨.hbm, 17, rfl⟩
abbrev main_call0_v8 : Ref sig .tc := ⟨.hbm, 18, rfl⟩
abbrev main_call0_cst_1 : Ref sig .tc := ⟨.hbm, 19, rfl⟩
abbrev main_v0_5 : Ref sig .tc := ⟨.hbm, 20, rfl⟩
abbrev main_call0_v10 : Ref sig .tc := ⟨.hbm, 21, rfl⟩
abbrev main_call0_v11 : Ref sig .tc := ⟨.hbm, 22, rfl⟩
abbrev main_call0_cst_2 : Ref sig .tc := ⟨.hbm, 23, rfl⟩
abbrev main_call0_cst_3 : Ref sig .tc := ⟨.hbm, 24, rfl⟩
abbrev main_call0_v12 : Ref sig .tc := ⟨.hbm, 25, rfl⟩
abbrev main_v0_4 : Ref sig .tc := ⟨.hbm, 26, rfl⟩
abbrev main_v0_6 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_stg8_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .smem S8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S8192x256 : Shape := ⟨2, ![8192, 256]⟩
abbrev S4x1024x256 : Shape := ⟨3, ![4, 1024, 256]⟩
abbrev S_ : Shape := ⟨0, ![]⟩
abbrev S1x1024x256 : Shape := ⟨3, ![1, 1024, 256]⟩
abbrev S1024x256 : Shape := ⟨2, ![1024, 256]⟩
abbrev S8192 : Shape := ⟨1, ![8192]⟩
abbrev S8192x1 : Shape := ⟨2, ![8192, 1]⟩
abbrev S1024 : Shape := ⟨1, ![1024]⟩
abbrev S1x1024 : Shape := ⟨2, ![1, 1024]⟩
abbrev S8192x1024 : Shape := ⟨2, ![8192, 1024]⟩
abbrev S256x1024 : Shape := ⟨2, ![256, 1024]⟩
abbrev S1 : Shape := ⟨1, ![1]⟩
abbrev S1x1 : Shape := ⟨2, ![1, 1]⟩
abbrev S8192x4 : Shape := ⟨2, ![8192, 4]⟩

abbrev nBuf : Space → Nat
  | .hbm => 391
  | .vmem => 0
  | .smem => 0
  | _ => 0

abbrev hbmTy0_0 (i : Nat) : BufTy := match i % 128 with
  | 0 => ⟨S8192x256, .f32⟩
  | 1 => ⟨S4x1024x256, .f32⟩
  | 2 => ⟨S_, .f32⟩
  | 3 => ⟨S8192x256, .f32⟩
  | 4 => ⟨S_, .f32⟩
  | 5 => ⟨S8192x256, .f32⟩
  | 6 => ⟨S1x1024x256, .f32⟩
  | 7 => ⟨S1024x256, .f32⟩
  | 8 => ⟨S8192x256, .f32⟩
  | 9 => ⟨S_, .f32⟩
  | 10 => ⟨S8192, .f32⟩
  | 11 => ⟨S8192x1, .f32⟩
  | 12 => ⟨S1024x256, .f32⟩
  | 13 => ⟨S_, .f32⟩
  | 14 => ⟨S1024, .f32⟩
  | 15 => ⟨S1x1024, .f32⟩
  | 16 => ⟨S8192x1024, .f32⟩
  | 17 => ⟨S8192x1024, .f32⟩
  | 18 => ⟨S8192x1024, .f32⟩
  | 19 => ⟨S256x1024, .f32⟩
  | 20 => ⟨S8192x1024, .f32⟩
  | 21 => ⟨S_, .f32⟩
  | 22 => ⟨S8192x1024, .f32⟩
  | 23 => ⟨S8192x1024, .f32⟩
  | 24 => ⟨S8192x1024, .f32⟩
  | 25 => ⟨S_, .f32⟩
  | 26 => ⟨S8192, .f32⟩
  | 27 => ⟨S8192x1, .f32⟩
  | 28 => ⟨S8192x1024, .f32⟩
  | 29 => ⟨S8192x1024, .f32⟩
  | 30 => ⟨S_, .f32⟩
  | 31 => ⟨S8192x1024, .f32⟩
  | 32 => ⟨S8192x1024, .f32⟩
  | 33 => ⟨S_, .f32⟩
  | 34 => ⟨S8192, .f32⟩
  | 35 => ⟨S_, .f32⟩
  | 36 => ⟨S8192, .f32⟩
  | 37 => ⟨S8192, .f32⟩
  | 38 => ⟨S8192x1, .f32⟩
  | 39 => ⟨S8192x1024, .f32⟩
  | 40 => ⟨S8192x1024, .f32⟩
  | 41 => ⟨S8192x1024, .f32⟩
  | 42 => ⟨S_, .f32⟩
  | 43 => ⟨S8192, .f32⟩
  | 44 => ⟨S8192x1, .f32⟩
  | 45 => ⟨S8192x1024, .f32⟩
  | 46 => ⟨S8192x1024, .f32⟩
  | 47 => ⟨S8192x256, .f32⟩
  | 48 => ⟨S8192x1024, .i32⟩
  | 49 => ⟨S_, .f32⟩
  | 50 => ⟨S_, .i32⟩
  | 51 => ⟨S8192, .f32⟩
  | 52 => ⟨S8192, .i32⟩
  | 53 => ⟨S8192x1, .i32⟩
  | 54 => ⟨S_, .i32⟩
  | 55 => ⟨S8192, .i32⟩
  | 56 => ⟨S8192, .i1⟩
  | 57 => ⟨S_, .i32⟩
  | 58 => ⟨S8192, .i32⟩
  | 59 => ⟨S8192, .i32⟩
  | 60 => ⟨S8192, .i32⟩
  | 61 => ⟨S8192x1, .i32⟩
  | 62 => ⟨S1, .i32⟩
  | 63 => ⟨S_, .i32⟩
  | 64 => ⟨S8192x1, .i32⟩
  | 65 => ⟨S8192x1, .i1⟩
  | 66 => ⟨S1x1, .i32⟩
  | 67 => ⟨S8192x1, .i32⟩
  | 68 => ⟨S8192x1, .i1⟩
  | 69 => ⟨S8192x1, .i1⟩
  | 70 => ⟨S_, .i1⟩
  | 71 => ⟨S8192, .i1⟩
  | 72 => ⟨S8192x256, .f32⟩
  | 73 => ⟨S8192x256, .i1⟩
  | 74 => ⟨S_, .f32⟩
  | 75 => ⟨S8192x256, .f32⟩
  | 76 => ⟨S8192x256, .f32⟩
  | 77 => ⟨S8192x256, .f32⟩
  | 78 => ⟨S8192x256, .f32⟩
  | 79 => ⟨S8192x256, .f32⟩
  | 80 => ⟨S8192x256, .f32⟩
  | 81 => ⟨S8192x256, .f32⟩
  | 82 => ⟨S_, .f32⟩
  | 83 => ⟨S8192, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S8192x256, .f32⟩
  | 91 => ⟨S8192x256, .f32⟩
  | 92 => ⟨S_, .f32⟩
  | 93 => ⟨S8192, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S1x1024x256, .f32⟩
  | 101 => ⟨S1024x256, .f32⟩
  | 102 => ⟨S8192x256, .f32⟩
  | 103 => ⟨S_, .f32⟩
  | 104 => ⟨S8192, .f32⟩
  | 105 => ⟨S8192x1, .f32⟩
  | 106 => ⟨S1024x256, .f32⟩
  | 107 => ⟨S_, .f32⟩
  | 108 => ⟨S1024, .f32⟩
  | 109 => ⟨S1x1024, .f32⟩
  | 110 => ⟨S8192x1024, .f32⟩
  | 111 => ⟨S8192x1024, .f32⟩
  | 112 => ⟨S8192x1024, .f32⟩
  | 113 => ⟨S256x1024, .f32⟩
  | 114 => ⟨S8192x1024, .f32⟩
  | 115 => ⟨S_, .f32⟩
  | 116 => ⟨S8192x1024, .f32⟩
  | 117 => ⟨S8192x1024, .f32⟩
  | 118 => ⟨S8192x1024, .f32⟩
  | 119 => ⟨S_, .f32⟩
  | 120 => ⟨S8192, .f32⟩
  | 121 => ⟨S8192x1, .f32⟩
  | 122 => ⟨S8192x1024, .f32⟩
  | 123 => ⟨S8192x1024, .f32⟩
  | 124 => ⟨S_, .f32⟩
  | 125 => ⟨S8192x1024, .f32⟩
  | 126 => ⟨S8192x1024, .f32⟩
  | 127 => ⟨S_, .f32⟩
  | _ => ⟨S8192x256, .f32⟩

abbrev hbmTy0_1 (i : Nat) : BufTy := match i % 128 with
  | 0 => ⟨S8192, .f32⟩
  | 1 => ⟨S_, .f32⟩
  | 2 => ⟨S8192, .f32⟩
  | 3 => ⟨S8192, .f32⟩
  | 4 => ⟨S8192x1, .f32⟩
  | 5 => ⟨S8192x1024, .f32⟩
  | 6 => ⟨S8192x1024, .f32⟩
  | 7 => ⟨S8192x1024, .f32⟩
  | 8 => ⟨S_, .f32⟩
  | 9 => ⟨S8192, .f32⟩
  | 10 => ⟨S8192x1, .f32⟩
  | 11 => ⟨S8192x1024, .f32⟩
  | 12 => ⟨S8192x1024, .f32⟩
  | 13 => ⟨S8192x256, .f32⟩
  | 14 => ⟨S8192x1024, .i32⟩
  | 15 => ⟨S_, .f32⟩
  | 16 => ⟨S_, .i32⟩
  | 17 => ⟨S8192, .f32⟩
  | 18 => ⟨S8192, .i32⟩
  | 19 => ⟨S8192x1, .i32⟩
  | 20 => ⟨S_, .i32⟩
  | 21 => ⟨S8192, .i32⟩
  | 22 => ⟨S8192, .i1⟩
  | 23 => ⟨S_, .i32⟩
  | 24 => ⟨S8192, .i32⟩
  | 25 => ⟨S8192, .i32⟩
  | 26 => ⟨S8192, .i32⟩
  | 27 => ⟨S8192x1, .i32⟩
  | 28 => ⟨S1, .i32⟩
  | 29 => ⟨S_, .i32⟩
  | 30 => ⟨S8192x1, .i32⟩
  | 31 => ⟨S8192x1, .i1⟩
  | 32 => ⟨S1x1, .i32⟩
  | 33 => ⟨S8192x1, .i32⟩
  | 34 => ⟨S8192x1, .i1⟩
  | 35 => ⟨S8192x1, .i1⟩
  | 36 => ⟨S_, .i1⟩
  | 37 => ⟨S8192, .i1⟩
  | 38 => ⟨S8192x256, .f32⟩
  | 39 => ⟨S8192x256, .i1⟩
  | 40 => ⟨S_, .f32⟩
  | 41 => ⟨S8192x256, .f32⟩
  | 42 => ⟨S8192x256, .f32⟩
  | 43 => ⟨S8192x256, .f32⟩
  | 44 => ⟨S8192x256, .f32⟩
  | 45 => ⟨S8192x256, .f32⟩
  | 46 => ⟨S8192x256, .f32⟩
  | 47 => ⟨S8192x256, .f32⟩
  | 48 => ⟨S_, .f32⟩
  | 49 => ⟨S8192, .f32⟩
  | 50 => ⟨S_, .f32⟩
  | 51 => ⟨S_, .f32⟩
  | 52 => ⟨S_, .f32⟩
  | 53 => ⟨S_, .f32⟩
  | 54 => ⟨S_, .f32⟩
  | 55 => ⟨S8192x256, .f32⟩
  | 56 => ⟨S8192x256, .f32⟩
  | 57 => ⟨S_, .f32⟩
  | 58 => ⟨S8192, .f32⟩
  | 59 => ⟨S_, .f32⟩
  | 60 => ⟨S_, .f32⟩
  | 61 => ⟨S_, .f32⟩
  | 62 => ⟨S_, .f32⟩
  | 63 => ⟨S_, .f32⟩
  | 64 => ⟨S1x1024x256, .f32⟩
  | 65 => ⟨S1024x256, .f32⟩
  | 66 => ⟨S8192x256, .f32⟩
  | 67 => ⟨S_, .f32⟩
  | 68 => ⟨S8192, .f32⟩
  | 69 => ⟨S8192x1, .f32⟩
  | 70 => ⟨S1024x256, .f32⟩
  | 71 => ⟨S_, .f32⟩
  | 72 => ⟨S1024, .f32⟩
  | 73 => ⟨S1x1024, .f32⟩
  | 74 => ⟨S8192x1024, .f32⟩
  | 75 => ⟨S8192x1024, .f32⟩
  | 76 => ⟨S8192x1024, .f32⟩
  | 77 => ⟨S256x1024, .f32⟩
  | 78 => ⟨S8192x1024, .f32⟩
  | 79 => ⟨S_, .f32⟩
  | 80 => ⟨S8192x1024, .f32⟩
  | 81 => ⟨S8192x1024, .f32⟩
  | 82 => ⟨S8192x1024, .f32⟩
  | 83 => ⟨S_, .f32⟩
  | 84 => ⟨S8192, .f32⟩
  | 85 => ⟨S8192x1, .f32⟩
  | 86 => ⟨S8192x1024, .f32⟩
  | 87 => ⟨S8192x1024, .f32⟩
  | 88 => ⟨S_, .f32⟩
  | 89 => ⟨S8192x1024, .f32⟩
  | 90 => ⟨S8192x1024, .f32⟩
  | 91 => ⟨S_, .f32⟩
  | 92 => ⟨S8192, .f32⟩
  | 93 => ⟨S_, .f32⟩
  | 94 => ⟨S8192, .f32⟩
  | 95 => ⟨S8192, .f32⟩
  | 96 => ⟨S8192x1, .f32⟩
  | 97 => ⟨S8192x1024, .f32⟩
  | 98 => ⟨S8192x1024, .f32⟩
  | 99 => ⟨S8192x1024, .f32⟩
  | 100 => ⟨S_, .f32⟩
  | 101 => ⟨S8192, .f32⟩
  | 102 => ⟨S8192x1, .f32⟩
  | 103 => ⟨S8192x1024, .f32⟩
  | 104 => ⟨S8192x1024, .f32⟩
  | 105 => ⟨S8192x256, .f32⟩
  | 106 => ⟨S8192x1024, .i32⟩
  | 107 => ⟨S_, .f32⟩
  | 108 => ⟨S_, .i32⟩
  | 109 => ⟨S8192, .f32⟩
  | 110 => ⟨S8192, .i32⟩
  | 111 => ⟨S8192x1, .i32⟩
  | 112 => ⟨S_, .i32⟩
  | 113 => ⟨S8192, .i32⟩
  | 114 => ⟨S8192, .i1⟩
  | 115 => ⟨S_, .i32⟩
  | 116 => ⟨S8192, .i32⟩
  | 117 => ⟨S8192, .i32⟩
  | 118 => ⟨S8192, .i32⟩
  | 119 => ⟨S8192x1, .i32⟩
  | 120 => ⟨S1, .i32⟩
  | 121 => ⟨S_, .i32⟩
  | 122 => ⟨S8192x1, .i32⟩
  | 123 => ⟨S8192x1, .i1⟩
  | 124 => ⟨S1x1, .i32⟩
  | 125 => ⟨S8192x1, .i32⟩
  | 126 => ⟨S8192x1, .i1⟩
  | 127 => ⟨S8192x1, .i1⟩
  | _ => ⟨S8192x256, .f32⟩

abbrev hbmTy0_2 (i : Nat) : BufTy := match i % 128 with
  | 0 => ⟨S_, .i1⟩
  | 1 => ⟨S8192, .i1⟩
  | 2 => ⟨S8192x256, .f32⟩
  | 3 => ⟨S8192x256, .i1⟩
  | 4 => ⟨S_, .f32⟩
  | 5 => ⟨S8192x256, .f32⟩
  | 6 => ⟨S8192x256, .f32⟩
  | 7 => ⟨S8192x256, .f32⟩
  | 8 => ⟨S8192x256, .f32⟩
  | 9 => ⟨S8192x256, .f32⟩
  | 10 => ⟨S8192x256, .f32⟩
  | 11 => ⟨S8192x256, .f32⟩
  | 12 => ⟨S_, .f32⟩
  | 13 => ⟨S8192, .f32⟩
  | 14 => ⟨S_, .f32⟩
  | 15 => ⟨S_, .f32⟩
  | 16 => ⟨S_, .f32⟩
  | 17 => ⟨S_, .f32⟩
  | 18 => ⟨S_, .f32⟩
  | 19 => ⟨S8192x256, .f32⟩
  | 20 => ⟨S8192x256, .f32⟩
  | 21 => ⟨S_, .f32⟩
  | 22 => ⟨S8192, .f32⟩
  | 23 => ⟨S_, .f32⟩
  | 24 => ⟨S_, .f32⟩
  | 25 => ⟨S_, .f32⟩
  | 26 => ⟨S_, .f32⟩
  | 27 => ⟨S_, .f32⟩
  | 28 => ⟨S1x1024x256, .f32⟩
  | 29 => ⟨S1024x256, .f32⟩
  | 30 => ⟨S8192x256, .f32⟩
  | 31 => ⟨S_, .f32⟩
  | 32 => ⟨S8192, .f32⟩
  | 33 => ⟨S8192x1, .f32⟩
  | 34 => ⟨S1024x256, .f32⟩
  | 35 => ⟨S_, .f32⟩
  | 36 => ⟨S1024, .f32⟩
  | 37 => ⟨S1x1024, .f32⟩
  | 38 => ⟨S8192x1024, .f32⟩
  | 39 => ⟨S8192x1024, .f32⟩
  | 40 => ⟨S8192x1024, .f32⟩
  | 41 => ⟨S256x1024, .f32⟩
  | 42 => ⟨S8192x1024, .f32⟩
  | 43 => ⟨S_, .f32⟩
  | 44 => ⟨S8192x1024, .f32⟩
  | 45 => ⟨S8192x1024, .f32⟩
  | 46 => ⟨S8192x1024, .f32⟩
  | 47 => ⟨S_, .f32⟩
  | 48 => ⟨S8192, .f32⟩
  | 49 => ⟨S8192x1, .f32⟩
  | 50 => ⟨S8192x1024, .f32⟩
  | 51 => ⟨S8192x1024, .f32⟩
  | 52 => ⟨S_, .f32⟩
  | 53 => ⟨S8192x1024, .f32⟩
  | 54 => ⟨S8192x1024, .f32⟩
  | 55 => ⟨S_, .f32⟩
  | 56 => ⟨S8192, .f32⟩
  | 57 => ⟨S_, .f32⟩
  | 58 => ⟨S8192, .f32⟩
  | 59 => ⟨S8192, .f32⟩
  | 60 => ⟨S8192x1, .f32⟩
  | 61 => ⟨S8192x1024, .f32⟩
  | 62 => ⟨S8192x1024, .f32⟩
  | 63 => ⟨S8192x1024, .f32⟩
  | 64 => ⟨S_, .f32⟩
  | 65 => ⟨S8192, .f32⟩
  | 66 => ⟨S8192x1, .f32⟩
  | 67 => ⟨S8192x1024, .f32⟩
  | 68 => ⟨S8192x1024, .f32⟩
  | 69 => ⟨S8192x256, .f32⟩
  | 70 => ⟨S8192x1024, .i32⟩
  | 71 => ⟨S_, .f32⟩
  | 72 => ⟨S_, .i32⟩
  | 73 => ⟨S8192, .f32⟩
  | 74 => ⟨S8192, .i32⟩
  | 75 => ⟨S8192x1, .i32⟩
  | 76 => ⟨S_, .i32⟩
  | 77 => ⟨S8192, .i32⟩
  | 78 => ⟨S8192, .i1⟩
  | 79 => ⟨S_, .i32⟩
  | 80 => ⟨S8192, .i32⟩
  | 81 => ⟨S8192, .i32⟩
  | 82 => ⟨S8192, .i32⟩
  | 83 => ⟨S8192x1, .i32⟩
  | 84 => ⟨S1, .i32⟩
  | 85 => ⟨S_, .i32⟩
  | 86 => ⟨S8192x1, .i32⟩
  | 87 => ⟨S8192x1, .i1⟩
  | 88 => ⟨S1x1, .i32⟩
  | 89 => ⟨S8192x1, .i32⟩
  | 90 => ⟨S8192x1, .i1⟩
  | 91 => ⟨S8192x1, .i1⟩
  | 92 => ⟨S_, .i1⟩
  | 93 => ⟨S8192, .i1⟩
  | 94 => ⟨S8192x256, .f32⟩
  | 95 => ⟨S8192x256, .i1⟩
  | 96 => ⟨S_, .f32⟩
  | 97 => ⟨S8192x256, .f32⟩
  | 98 => ⟨S8192x256, .f32⟩
  | 99 => ⟨S8192x256, .f32⟩
  | 100 => ⟨S8192x256, .f32⟩
  | 101 => ⟨S8192x256, .f32⟩
  | 102 => ⟨S8192x256, .f32⟩
  | 103 => ⟨S8192x256, .f32⟩
  | 104 => ⟨S_, .f32⟩
  | 105 => ⟨S8192, .f32⟩
  | 106 => ⟨S_, .f32⟩
  | 107 => ⟨S_, .f32⟩
  | 108 => ⟨S_, .f32⟩
  | 109 => ⟨S_, .f32⟩
  | 110 => ⟨S_, .f32⟩
  | 111 => ⟨S8192x256, .f32⟩
  | 112 => ⟨S8192x256, .f32⟩
  | 113 => ⟨S_, .f32⟩
  | 114 => ⟨S8192, .f32⟩
  | 115 => ⟨S_, .f32⟩
  | 116 => ⟨S_, .f32⟩
  | 117 => ⟨S_, .f32⟩
  | 118 => ⟨S_, .f32⟩
  | 119 => ⟨S_, .f32⟩
  | 120 => ⟨S8192x256, .f32⟩
  | 121 => ⟨S8192x256, .f32⟩
  | 122 => ⟨S_, .f32⟩
  | 123 => ⟨S8192, .f32⟩
  | 124 => ⟨S_, .f32⟩
  | 125 => ⟨S_, .f32⟩
  | 126 => ⟨S_, .f32⟩
  | 127 => ⟨S_, .f32⟩
  | _ => ⟨S8192x256, .f32⟩

abbrev hbmTy0_3 (i : Nat) : BufTy := match i % 128 with
  | 0 => ⟨S8192x256, .f32⟩
  | 1 => ⟨S8192x256, .f32⟩
  | 2 => ⟨S_, .f32⟩
  | 3 => ⟨S_, .f32⟩
  | 4 => ⟨S_, .f32⟩
  | 5 => ⟨S_, .f32⟩
  | 6 => ⟨S8192x4, .i32⟩
  | _ => ⟨S8192x256, .f32⟩

abbrev hbmTy (i : Nat) : BufTy := match i / 128 with
  | 0 => hbmTy0_0 i
  | 1 => hbmTy0_1 i
  | 2 => hbmTy0_2 i
  | 3 => hbmTy0_3 i
  | _ => ⟨S8192x256, .f32⟩

abbrev bufTy : (tb : Table) → Fin (tcTables nBuf tb) → BufTy
  | .hbm, ⟨i, _⟩ => hbmTy i
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_5 : Ref sig .tc := ⟨.hbm, 30, rfl⟩
abbrev main_v22 : Ref sig .tc := ⟨.hbm, 31, rfl⟩
abbrev main_v23 : Ref sig .tc := ⟨.hbm, 32, rfl⟩
abbrev main_cst_6 : Ref sig .tc := ⟨.hbm, 33, rfl⟩
abbrev main_v24 : Ref sig .tc := ⟨.hbm, 34, rfl⟩
abbrev main_cst_7 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_8 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_call0_v0 : Ref sig .tc := ⟨.hbm, 48, rfl⟩
abbrev main_call0_cst : Ref sig .tc := ⟨.hbm, 49, rfl⟩
abbrev main_call0_c : Ref sig .tc := ⟨.hbm, 50, rfl⟩
abbrev main_call0_v1_0 : Ref sig .tc := ⟨.hbm, 51, rfl⟩
abbrev main_v36 : Ref sig .tc := ⟨.hbm, 52, rfl⟩
abbrev main_v37 : Ref sig .tc := ⟨.hbm, 53, rfl⟩
abbrev main_call1_c : Ref sig .tc := ⟨.hbm, 54, rfl⟩
abbrev main_call1_v0 : Ref sig .tc := ⟨.hbm, 55, rfl⟩
abbrev main_call1_v1 : Ref sig .tc := ⟨.hbm, 56, rfl⟩
abbrev main_call1_c_0 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_call1_v5 : Ref sig .tc := ⟨.hbm, 61, rfl⟩
abbrev main_call1_c_1 : Ref sig .tc := ⟨.hbm, 62, rfl⟩
abbrev main_call1_c_2 : Ref sig .tc := ⟨.hbm, 63, rfl⟩
abbrev main_call1_v6 : Ref sig .tc := ⟨.hbm, 64, rfl⟩
abbrev main_call1_v7 : Ref sig .tc := ⟨.hbm, 65, rfl⟩
abbrev main_call1_v8 : Ref sig .tc := ⟨.hbm, 66, rfl⟩
abbrev main_call1_v9 : Ref sig .tc := ⟨.hbm, 67, rfl⟩
abbrev main_call1_v10 : Ref sig .tc := ⟨.hbm, 68, rfl⟩
abbrev main_call1_v11 : Ref sig .tc := ⟨.hbm, 69, rfl⟩
abbrev main_call1_c_3 : Ref sig .tc := ⟨.hbm, 70, rfl⟩
abbrev main_call1_v12 : Ref sig .tc := ⟨.hbm, 71, rfl⟩
abbrev main_call1_v13 : Ref sig .tc := ⟨.hbm, 72, rfl⟩
abbrev main_call1_v14 : Ref sig .tc := ⟨.hbm, 73, rfl⟩
abbrev main_call1_cst : Ref sig .tc := ⟨.hbm, 74, rfl⟩
abbrev main_call1_v15 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_cst_9 : Ref sig .tc := ⟨.hbm, 82, rfl⟩
abbrev main_v44 : Ref sig .tc := ⟨.hbm, 83, rfl⟩
abbrev main_cst_10 : Ref sig .tc := ⟨.hbm, 84, rfl⟩
abbrev main_v45 : Ref sig .tc := ⟨.hbm, 85, rfl⟩
abbrev main_cst_11 : Ref sig .tc := ⟨.hbm, 86, rfl⟩
abbrev main_v46 : Ref sig .tc := ⟨.hbm, 87, rfl⟩
abbrev main_cst_12 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_cst_13 : Ref sig .tc := ⟨.hbm, 92, rfl⟩
abbrev main_v50 : Ref sig .tc := ⟨.hbm, 93, rfl⟩
abbrev main_cst_14 : Ref sig .tc := ⟨.hbm, 94, rfl⟩
abbrev main_v51 : Ref sig .tc := ⟨.hbm, 95, rfl⟩
abbrev main_cst_15 : Ref sig .tc := ⟨.hbm, 96, rfl⟩
abbrev main_v52 : Ref sig .tc := ⟨.hbm, 97, rfl⟩
abbrev main_cst_16 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_cst_17 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_cst_18 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_cst_19 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_cst_20 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_cst_21 : Ref sig .tc := ⟨.hbm, 124, rfl⟩
abbrev main_v74 : Ref sig .tc := ⟨.hbm, 125, rfl⟩
abbrev main_v75 : Ref sig .tc := ⟨.hbm, 126, rfl⟩
abbrev main_cst_22 : Ref sig .tc := ⟨.hbm, 127, rfl⟩
abbrev main_v76 : Ref sig .tc := ⟨.hbm, 128, rfl⟩
abbrev main_cst_23 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_cst_24 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_call2_v0 : Ref sig .tc := ⟨.hbm, 142, rfl⟩
abbrev main_call2_cst : Ref sig .tc := ⟨.hbm, 143, rfl⟩
abbrev main_call2_c : Ref sig .tc := ⟨.hbm, 144, rfl⟩
abbrev main_call2_v1_0 : Ref sig .tc := ⟨.hbm, 145, rfl⟩
abbrev main_v88 : Ref sig .tc := ⟨.hbm, 146, rfl⟩
abbrev main_v89 : Ref sig .tc := ⟨.hbm, 147, rfl⟩
abbrev main_call3_c : Ref sig .tc := ⟨.hbm, 148, rfl⟩
abbrev main_call3_v0 : Ref sig .tc := ⟨.hbm, 149, rfl⟩
abbrev main_call3_v1 : Ref sig .tc := ⟨.hbm, 150, rfl⟩
abbrev main_call3_c_0 : Ref sig .tc := ⟨.hbm, 151, rfl⟩
abbrev main_call3_v2 : Ref sig .tc := ⟨.hbm, 152, rfl⟩
abbrev main_call3_v3 : Ref sig .tc := ⟨.hbm, 153, rfl⟩
abbrev main_call3_v4 : Ref sig .tc := ⟨.hbm, 154, rfl⟩
abbrev main_call3_v5 : Ref sig .tc := ⟨.hbm, 155, rfl⟩
abbrev main_call3_c_1 : Ref sig .tc := ⟨.hbm, 156, rfl⟩
abbrev main_call3_c_2 : Ref sig .tc := ⟨.hbm, 157, rfl⟩
abbrev main_call3_v6 : Ref sig .tc := ⟨.hbm, 158, rfl⟩
abbrev main_call3_v7 : Ref sig .tc := ⟨.hbm, 159, rfl⟩
abbrev main_call3_v8 : Ref sig .tc := ⟨.hbm, 160, rfl⟩
abbrev main_call3_v9 : Ref sig .tc := ⟨.hbm, 161, rfl⟩
abbrev main_call3_v10 : Ref sig .tc := ⟨.hbm, 162, rfl⟩
abbrev main_call3_v11 : Ref sig .tc := ⟨.hbm, 163, rfl⟩
abbrev main_call3_c_3 : Ref sig .tc := ⟨.hbm, 164, rfl⟩
abbrev main_call3_v12 : Ref sig .tc := ⟨.hbm, 165, rfl⟩
abbrev main_call3_v13 : Ref sig .tc := ⟨.hbm, 166, rfl⟩
abbrev main_call3_v14 : Ref sig .tc := ⟨.hbm, 167, rfl⟩
abbrev main_call3_cst : Ref sig .tc := ⟨.hbm, 168, rfl⟩
abbrev main_call3_v15 : Ref sig .tc := ⟨.hbm, 169, rfl⟩
abbrev main_v90 : Ref sig .tc := ⟨.hbm, 170, rfl⟩
abbrev main_v91 : Ref sig .tc := ⟨.hbm, 171, rfl⟩
abbrev main_v92 : Ref sig .tc := ⟨.hbm, 172, rfl⟩
abbrev main_v93 : Ref sig .tc := ⟨.hbm, 173, rfl⟩
abbrev main_v94 : Ref sig .tc := ⟨.hbm, 174, rfl⟩
abbrev main_v95 : Ref sig .tc := ⟨.hbm, 175, rfl⟩
abbrev main_cst_25 : Ref sig .tc := ⟨.hbm, 176, rfl⟩
abbrev main_v96 : Ref sig .tc := ⟨.hbm, 177, rfl⟩
abbrev main_cst_26 : Ref sig .tc := ⟨.hbm, 178, rfl⟩
abbrev main_v97 : Ref sig .tc := ⟨.hbm, 179, rfl⟩
abbrev main_cst_27 : Ref sig .tc := ⟨.hbm, 180, rfl⟩
abbrev main_v98 : Ref sig .tc := ⟨.hbm, 181, rfl⟩
abbrev main_v99 : Ref sig .tc := ⟨.hbm, 182, rfl⟩
abbrev main_v100 : Ref sig .tc := ⟨.hbm, 183, rfl⟩
abbrev main_v101 : Ref sig .tc := ⟨.hbm, 184, rfl⟩
abbrev main_cst_28 : Ref sig .tc := ⟨.hbm, 185, rfl⟩
abbrev main_v102 : Ref sig .tc := ⟨.hbm, 186, rfl⟩
abbrev main_cst_29 : Ref sig .tc := ⟨.hbm, 187, rfl⟩
abbrev main_v103 : Ref sig .tc := ⟨.hbm, 188, rfl⟩
abbrev main_cst_30 : Ref sig .tc := ⟨.hbm, 189, rfl⟩
abbrev main_v104 : Ref sig .tc := ⟨.hbm, 190, rfl⟩
abbrev main_v105 : Ref sig .tc := ⟨.hbm, 191, rfl⟩
abbrev main_v106 : Ref sig .tc := ⟨.hbm, 192, rfl⟩
abbrev main_v107 : Ref sig .tc := ⟨.hbm, 193, rfl⟩
abbrev main_v108 : Ref sig .tc := ⟨.hbm, 194, rfl⟩
abbrev main_cst_31 : Ref sig .tc := ⟨.hbm, 195, rfl⟩
abbrev main_v109 : Ref sig .tc := ⟨.hbm, 196, rfl⟩
abbrev main_v110 : Ref sig .tc := ⟨.hbm, 197, rfl⟩
abbrev main_v111 : Ref sig .tc := ⟨.hbm, 198, rfl⟩
abbrev main_cst_32 : Ref sig .tc := ⟨.hbm, 199, rfl⟩
abbrev main_v112 : Ref sig .tc := ⟨.hbm, 200, rfl⟩
abbrev main_v113 : Ref sig .tc := ⟨.hbm, 201, rfl⟩
abbrev main_v114 : Ref sig .tc := ⟨.hbm, 202, rfl⟩
abbrev main_v115 : Ref sig .tc := ⟨.hbm, 203, rfl⟩
abbrev main_v116 : Ref sig .tc := ⟨.hbm, 204, rfl⟩
abbrev main_v117 : Ref sig .tc := ⟨.hbm, 205, rfl⟩
abbrev main_v118 : Ref sig .tc := ⟨.hbm, 206, rfl⟩
abbrev main_cst_33 : Ref sig .tc := ⟨.hbm, 207, rfl⟩
abbrev main_v119 : Ref sig .tc := ⟨.hbm, 208, rfl⟩
abbrev main_v120 : Ref sig .tc := ⟨.hbm, 209, rfl⟩
abbrev main_v121 : Ref sig .tc := ⟨.hbm, 210, rfl⟩
abbrev main_cst_34 : Ref sig .tc := ⟨.hbm, 211, rfl⟩
abbrev main_v122 : Ref sig .tc := ⟨.hbm, 212, rfl⟩
abbrev main_v123 : Ref sig .tc := ⟨.hbm, 213, rfl⟩
abbrev main_v124 : Ref sig .tc := ⟨.hbm, 214, rfl⟩
abbrev main_v125 : Ref sig .tc := ⟨.hbm, 215, rfl⟩
abbrev main_cst_35 : Ref sig .tc := ⟨.hbm, 216, rfl⟩
abbrev main_v126 : Ref sig .tc := ⟨.hbm, 217, rfl⟩
abbrev main_v127 : Ref sig .tc := ⟨.hbm, 218, rfl⟩
abbrev main_cst_36 : Ref sig .tc := ⟨.hbm, 219, rfl⟩
abbrev main_v128 : Ref sig .tc := ⟨.hbm, 220, rfl⟩
abbrev main_cst_37 : Ref sig .tc := ⟨.hbm, 221, rfl⟩
abbrev main_v129 : Ref sig .tc := ⟨.hbm, 222, rfl⟩
abbrev main_v130 : Ref sig .tc := ⟨.hbm, 223, rfl⟩
abbrev main_v131 : Ref sig .tc := ⟨.hbm, 224, rfl⟩
abbrev main_v132 : Ref sig .tc := ⟨.hbm, 225, rfl⟩
abbrev main_v133 : Ref sig .tc := ⟨.hbm, 226, rfl⟩
abbrev main_v134 : Ref sig .tc := ⟨.hbm, 227, rfl⟩
abbrev main_cst_38 : Ref sig .tc := ⟨.hbm, 228, rfl⟩
abbrev main_v135 : Ref sig .tc := ⟨.hbm, 229, rfl⟩
abbrev main_v136 : Ref sig .tc := ⟨.hbm, 230, rfl⟩
abbrev main_v137 : Ref sig .tc := ⟨.hbm, 231, rfl⟩
abbrev main_v138 : Ref sig .tc := ⟨.hbm, 232, rfl⟩
abbrev main_v139 : Ref sig .tc := ⟨.hbm, 233, rfl⟩
abbrev main_call4_v0 : Ref sig .tc := ⟨.hbm, 234, rfl⟩
abbrev main_call4_cst : Ref sig .tc := ⟨.hbm, 235, rfl⟩
abbrev main_call4_c : Ref sig .tc := ⟨.hbm, 236, rfl⟩
abbrev main_call4_v1_0 : Ref sig .tc := ⟨.hbm, 237, rfl⟩
abbrev main_v140 : Ref sig .tc := ⟨.hbm, 238, rfl⟩
abbrev main_v141 : Ref sig .tc := ⟨.hbm, 239, rfl⟩
abbrev main_call5_c : Ref sig .tc := ⟨.hbm, 240, rfl⟩
abbrev main_call5_v0 : Ref sig .tc := ⟨.hbm, 241, rfl⟩
abbrev main_call5_v1 : Ref sig .tc := ⟨.hbm, 242, rfl⟩
abbrev main_call5_c_0 : Ref sig .tc := ⟨.hbm, 243, rfl⟩
abbrev main_call5_v2 : Ref sig .tc := ⟨.hbm, 244, rfl⟩
abbrev main_call5_v3 : Ref sig .tc := ⟨.hbm, 245, rfl⟩
abbrev main_call5_v4 : Ref sig .tc := ⟨.hbm, 246, rfl⟩
abbrev main_call5_v5 : Ref sig .tc := ⟨.hbm, 247, rfl⟩
abbrev main_call5_c_1 : Ref sig .tc := ⟨.hbm, 248, rfl⟩
abbrev main_call5_c_2 : Ref sig .tc := ⟨.hbm, 249, rfl⟩
abbrev main_call5_v6 : Ref sig .tc := ⟨.hbm, 250, rfl⟩
abbrev main_call5_v7 : Ref sig .tc := ⟨.hbm, 251, rfl⟩
abbrev main_call5_v8 : Ref sig .tc := ⟨.hbm, 252, rfl⟩
abbrev main_call5_v9 : Ref sig .tc := ⟨.hbm, 253, rfl⟩
abbrev main_call5_v10 : Ref sig .tc := ⟨.hbm, 254, rfl⟩
abbrev main_call5_v11 : Ref sig .tc := ⟨.hbm, 255, rfl⟩
abbrev main_call5_c_3 : Ref sig .tc := ⟨.hbm, 256, rfl⟩
abbrev main_call5_v12 : Ref sig .tc := ⟨.hbm, 257, rfl⟩
abbrev main_call5_v13 : Ref sig .tc := ⟨.hbm, 258, rfl⟩
abbrev main_call5_v14 : Ref sig .tc := ⟨.hbm, 259, rfl⟩
abbrev main_call5_cst : Ref sig .tc := ⟨.hbm, 260, rfl⟩
abbrev main_call5_v15 : Ref sig .tc := ⟨.hbm, 261, rfl⟩
abbrev main_v142 : Ref sig .tc := ⟨.hbm, 262, rfl⟩
abbrev main_v143 : Ref sig .tc := ⟨.hbm, 263, rfl⟩
abbrev main_v144 : Ref sig .tc := ⟨.hbm, 264, rfl⟩
abbrev main_v145 : Ref sig .tc := ⟨.hbm, 265, rfl⟩
abbrev main_v146 : Ref sig .tc := ⟨.hbm, 266, rfl⟩
abbrev main_v147 : Ref sig .tc := ⟨.hbm, 267, rfl⟩
abbrev main_cst_39 : Ref sig .tc := ⟨.hbm, 268, rfl⟩
abbrev main_v148 : Ref sig .tc := ⟨.hbm, 269, rfl⟩
abbrev main_cst_40 : Ref sig .tc := ⟨.hbm, 270, rfl⟩
abbrev main_v149 : Ref sig .tc := ⟨.hbm, 271, rfl⟩
abbrev main_cst_41 : Ref sig .tc := ⟨.hbm, 272, rfl⟩
abbrev main_v150 : Ref sig .tc := ⟨.hbm, 273, rfl⟩
abbrev main_v151 : Ref sig .tc := ⟨.hbm, 274, rfl⟩
abbrev main_v152 : Ref sig .tc := ⟨.hbm, 275, rfl⟩
abbrev main_v153 : Ref sig .tc := ⟨.hbm, 276, rfl⟩
abbrev main_cst_42 : Ref sig .tc := ⟨.hbm, 277, rfl⟩
abbrev main_v154 : Ref sig .tc := ⟨.hbm, 278, rfl⟩
abbrev main_cst_43 : Ref sig .tc := ⟨.hbm, 279, rfl⟩
abbrev main_v155 : Ref sig .tc := ⟨.hbm, 280, rfl⟩
abbrev main_cst_44 : Ref sig .tc := ⟨.hbm, 281, rfl⟩
abbrev main_v156 : Ref sig .tc := ⟨.hbm, 282, rfl⟩
abbrev main_v157 : Ref sig .tc := ⟨.hbm, 283, rfl⟩
abbrev main_v158 : Ref sig .tc := ⟨.hbm, 284, rfl⟩
abbrev main_v159 : Ref sig .tc := ⟨.hbm, 285, rfl⟩
abbrev main_v160 : Ref sig .tc := ⟨.hbm, 286, rfl⟩
abbrev main_cst_45 : Ref sig .tc := ⟨.hbm, 287, rfl⟩
abbrev main_v161 : Ref sig .tc := ⟨.hbm, 288, rfl⟩
abbrev main_v162 : Ref sig .tc := ⟨.hbm, 289, rfl⟩
abbrev main_v163 : Ref sig .tc := ⟨.hbm, 290, rfl⟩
abbrev main_cst_46 : Ref sig .tc := ⟨.hbm, 291, rfl⟩
abbrev main_v164 : Ref sig .tc := ⟨.hbm, 292, rfl⟩
abbrev main_v165 : Ref sig .tc := ⟨.hbm, 293, rfl⟩
abbrev main_v166 : Ref sig .tc := ⟨.hbm, 294, rfl⟩
abbrev main_v167 : Ref sig .tc := ⟨.hbm, 295, rfl⟩
abbrev main_v168 : Ref sig .tc := ⟨.hbm, 296, rfl⟩
abbrev main_v169 : Ref sig .tc := ⟨.hbm, 297, rfl⟩
abbrev main_v170 : Ref sig .tc := ⟨.hbm, 298, rfl⟩
abbrev main_cst_47 : Ref sig .tc := ⟨.hbm, 299, rfl⟩
abbrev main_v171 : Ref sig .tc := ⟨.hbm, 300, rfl⟩
abbrev main_v172 : Ref sig .tc := ⟨.hbm, 301, rfl⟩
abbrev main_v173 : Ref sig .tc := ⟨.hbm, 302, rfl⟩
abbrev main_cst_48 : Ref sig .tc := ⟨.hbm, 303, rfl⟩
abbrev main_v174 : Ref sig .tc := ⟨.hbm, 304, rfl⟩
abbrev main_v175 : Ref sig .tc := ⟨.hbm, 305, rfl⟩
abbrev main_v176 : Ref sig .tc := ⟨.hbm, 306, rfl⟩
abbrev main_v177 : Ref sig .tc := ⟨.hbm, 307, rfl⟩
abbrev main_cst_49 : Ref sig .tc := ⟨.hbm, 308, rfl⟩
abbrev main_v178 : Ref sig .tc := ⟨.hbm, 309, rfl⟩
abbrev main_v179 : Ref sig .tc := ⟨.hbm, 310, rfl⟩
abbrev main_cst_50 : Ref sig .tc := ⟨.hbm, 311, rfl⟩
abbrev main_v180 : Ref sig .tc := ⟨.hbm, 312, rfl⟩
abbrev main_cst_51 : Ref sig .tc := ⟨.hbm, 313, rfl⟩
abbrev main_v181 : Ref sig .tc := ⟨.hbm, 314, rfl⟩
abbrev main_v182 : Ref sig .tc := ⟨.hbm, 315, rfl⟩
abbrev main_v183 : Ref sig .tc := ⟨.hbm, 316, rfl⟩
abbrev main_v184 : Ref sig .tc := ⟨.hbm, 317, rfl⟩
abbrev main_v185 : Ref sig .tc := ⟨.hbm, 318, rfl⟩
abbrev main_v186 : Ref sig .tc := ⟨.hbm, 319, rfl⟩
abbrev main_cst_52 : Ref sig .tc := ⟨.hbm, 320, rfl⟩
abbrev main_v187 : Ref sig .tc := ⟨.hbm, 321, rfl⟩
abbrev main_v188 : Ref sig .tc := ⟨.hbm, 322, rfl⟩
abbrev main_v189 : Ref sig .tc := ⟨.hbm, 323, rfl⟩
abbrev main_v190 : Ref sig .tc := ⟨.hbm, 324, rfl⟩
abbrev main_v191 : Ref sig .tc := ⟨.hbm, 325, rfl⟩
abbrev main_call6_v0 : Ref sig .tc := ⟨.hbm, 326, rfl⟩
abbrev main_call6_cst : Ref sig .tc := ⟨.hbm, 327, rfl⟩
abbrev main_call6_c : Ref sig .tc := ⟨.hbm, 328, rfl⟩
abbrev main_call6_v1_0 : Ref sig .tc := ⟨.hbm, 329, rfl⟩
abbrev main_v192 : Ref sig .tc := ⟨.hbm, 330, rfl⟩
abbrev main_v193 : Ref sig .tc := ⟨.hbm, 331, rfl⟩
abbrev main_call7_c : Ref sig .tc := ⟨.hbm, 332, rfl⟩
abbrev main_call7_v0 : Ref sig .tc := ⟨.hbm, 333, rfl⟩
abbrev main_call7_v1 : Ref sig .tc := ⟨.hbm, 334, rfl⟩
abbrev main_call7_c_0 : Ref sig .tc := ⟨.hbm, 335, rfl⟩
abbrev main_call7_v2 : Ref sig .tc := ⟨.hbm, 336, rfl⟩
abbrev main_call7_v3 : Ref sig .tc := ⟨.hbm, 337, rfl⟩
abbrev main_call7_v4 : Ref sig .tc := ⟨.hbm, 338, rfl⟩
abbrev main_call7_v5 : Ref sig .tc := ⟨.hbm, 339, rfl⟩
abbrev main_call7_c_1 : Ref sig .tc := ⟨.hbm, 340, rfl⟩
abbrev main_call7_c_2 : Ref sig .tc := ⟨.hbm, 341, rfl⟩
abbrev main_call7_v6 : Ref sig .tc := ⟨.hbm, 342, rfl⟩
abbrev main_call7_v7 : Ref sig .tc := ⟨.hbm, 343, rfl⟩
abbrev main_call7_v8 : Ref sig .tc := ⟨.hbm, 344, rfl⟩
abbrev main_call7_v9 : Ref sig .tc := ⟨.hbm, 345, rfl⟩
abbrev main_call7_v10 : Ref sig .tc := ⟨.hbm, 346, rfl⟩
abbrev main_call7_v11 : Ref sig .tc := ⟨.hbm, 347, rfl⟩
abbrev main_call7_c_3 : Ref sig .tc := ⟨.hbm, 348, rfl⟩
abbrev main_call7_v12 : Ref sig .tc := ⟨.hbm, 349, rfl⟩
abbrev main_call7_v13 : Ref sig .tc := ⟨.hbm, 350, rfl⟩
abbrev main_call7_v14 : Ref sig .tc := ⟨.hbm, 351, rfl⟩
abbrev main_call7_cst : Ref sig .tc := ⟨.hbm, 352, rfl⟩
abbrev main_call7_v15 : Ref sig .tc := ⟨.hbm, 353, rfl⟩
abbrev main_v194 : Ref sig .tc := ⟨.hbm, 354, rfl⟩
abbrev main_v195 : Ref sig .tc := ⟨.hbm, 355, rfl⟩
abbrev main_v196 : Ref sig .tc := ⟨.hbm, 356, rfl⟩
abbrev main_v197 : Ref sig .tc := ⟨.hbm, 357, rfl⟩
abbrev main_v198 : Ref sig .tc := ⟨.hbm, 358, rfl⟩
abbrev main_v199 : Ref sig .tc := ⟨.hbm, 359, rfl⟩
abbrev main_cst_53 : Ref sig .tc := ⟨.hbm, 360, rfl⟩
abbrev main_v200 : Ref sig .tc := ⟨.hbm, 361, rfl⟩
abbrev main_cst_54 : Ref sig .tc := ⟨.hbm, 362, rfl⟩
abbrev main_v201 : Ref sig .tc := ⟨.hbm, 363, rfl⟩
abbrev main_cst_55 : Ref sig .tc := ⟨.hbm, 364, rfl⟩
abbrev main_v202 : Ref sig .tc := ⟨.hbm, 365, rfl⟩
abbrev main_v203 : Ref sig .tc := ⟨.hbm, 366, rfl⟩
abbrev main_v204 : Ref sig .tc := ⟨.hbm, 367, rfl⟩
abbrev main_v205 : Ref sig .tc := ⟨.hbm, 368, rfl⟩
abbrev main_cst_56 : Ref sig .tc := ⟨.hbm, 369, rfl⟩
abbrev main_v206 : Ref sig .tc := ⟨.hbm, 370, rfl⟩
abbrev main_cst_57 : Ref sig .tc := ⟨.hbm, 371, rfl⟩
abbrev main_v207 : Ref sig .tc := ⟨.hbm, 372, rfl⟩
abbrev main_cst_58 : Ref sig .tc := ⟨.hbm, 373, rfl⟩
abbrev main_v208 : Ref sig .tc := ⟨.hbm, 374, rfl⟩
abbrev main_v209 : Ref sig .tc := ⟨.hbm, 375, rfl⟩
abbrev main_v210 : Ref sig .tc := ⟨.hbm, 376, rfl⟩
abbrev main_v211 : Ref sig .tc := ⟨.hbm, 377, rfl⟩
abbrev main_cst_59 : Ref sig .tc := ⟨.hbm, 378, rfl⟩
abbrev main_v212 : Ref sig .tc := ⟨.hbm, 379, rfl⟩
abbrev main_cst_60 : Ref sig .tc := ⟨.hbm, 380, rfl⟩
abbrev main_v213 : Ref sig .tc := ⟨.hbm, 381, rfl⟩
abbrev main_cst_61 : Ref sig .tc := ⟨.hbm, 382, rfl⟩
abbrev main_v214 : Ref sig .tc := ⟨.hbm, 383, rfl⟩
abbrev main_v215 : Ref sig .tc := ⟨.hbm, 384, rfl⟩
abbrev main_v216 : Ref sig .tc := ⟨.hbm, 385, rfl⟩
abbrev main_cst_62 : Ref sig .tc := ⟨.hbm, 386, rfl⟩
abbrev main_v217 : Ref sig .tc := ⟨.hbm, 387, rfl⟩
abbrev main_cst_63 : Ref sig .tc := ⟨.hbm, 388, rfl⟩
abbrev main_v218 : Ref sig .tc := ⟨.hbm, 389, rfl⟩
abbrev main_v219 : Ref sig .tc := ⟨.hbm, 390, rfl⟩

abbrev nD : Nat := 1
abbrev τ : Topo := Topo.v7x

variable {F : FTy → Type} [FloatOps F]
-- ==== Proof.Ref.Ops.lean ====
module

public import proofs.«01_k».proof.Defs
public import proofs.«01_k».proof.ReferenceIdeal
public import proofs.«01_k».proof.Proof.Gen.ReferenceIdeal
public import Idealize.ShloMosaic.Lib.Claim
public import Idealize.ShloMosaic.Lib.StableHlo.RunHlo
public import Idealize.ShloMosaic.Lib.StableHlo.RunRead
public import Idealize.ShloMosaic.Lib.Quiescent

/-! # The reference as a list of host operations

The reference program is a straight line of host operations. Its statements come in five pieces; each piece is read off
the program as a literal list, the calls it makes included. The whole line is then cut at the ends of the four levels. -/

@[expose] public section

set_option maxRecDepth 16384
set_option maxHeartbeats 2000000

noncomputable section

namespace Cert.ReferenceIdeal.Line

open Idealize.ShloMosaic Idealize.ShloMosaic.TcCoe Idealize.ShloMosaic.StableHlo Idealize.SL.Sem
open Cert.ReferenceIdeal Cert.ReferenceIdeal.Gen

/-- The operations of statements 1 to 60, and that the piece is their sequence. -/
def part0 : { ops : List (HloOp τ sig (Elt Ideal)) // ∀ d, IsSeq (main_part0 (F := Ideal) d) ops } := by
  apply Subtype.mk
  intro d
  unfold main_part0 fn_argmax.body fn_take.body fn_where.body
  hlo_seq

/-- The operations of statements 61 to 120. -/
def part1 : { ops : List (HloOp τ sig (Elt Ideal)) // ∀ d, IsSeq (main_part1 (F := Ideal) d) ops } := by
  apply Subtype.mk
  intro d
  unfold main_part1 fn_argmax.body fn_take.body fn_where.body
  hlo_seq

/-- The operations of statements 121 to 180. -/
def part2 : { ops : List (HloOp τ sig (Elt Ideal)) // ∀ d, IsSeq (main_part2 (F := Ideal) d) ops } := by
  apply Subtype.mk
  intro d
  unfold main_part2
  hlo_seq

/-- The operations of statements 181 to 240. -/
def part3 : { ops : List (HloOp τ sig (Elt Ideal)) // ∀ d, IsSeq (main_part3 (F := Ideal) d) ops } := by
  apply Subtype.mk
  intro d
  unfold main_part3 fn_argmax.body fn_take.body fn_where.body
  hlo_seq

/-- The operations of statements 241 to 286. -/
def part4 : { ops : List (HloOp τ sig (Elt Ideal)) // ∀ d, IsSeq (main_part4 (F := Ideal) d) ops } := by
  apply Subtype.mk
  intro d
  unfold main_part4 fn_argmax.body fn_take.body fn_where.body
  hlo_seq

/-- The whole line. -/
def ops : List (HloOp τ sig (Elt Ideal)) := part0.1 ++ (part1.1 ++ (part2.1 ++ (part3.1 ++ part4.1)))

/-- The program is the sequence of its operations. -/
theorem main_isSeq (d : Dev nD) : IsSeq (main (F := Ideal) d) ops := by
  unfold IsSeq ops main
  rw [seq_append, seq_append, seq_append, seq_append, ← part0.2 d, ← part1.2 d, ← part2.2 d, ← part3.2 d, ← part4.2 d]

/-- Level 0's operations. -/
def seg0 : List (HloOp τ sig (Elt Ideal)) := part0.1 ++ part1.1.take 12
/-- Level 1's operations. -/
def seg1 : List (HloOp τ sig (Elt Ideal)) := part1.1.drop 12 ++ part2.1.take 18
/-- Level 2's operations. -/
def seg2 : List (HloOp τ sig (Elt Ideal)) := part2.1.drop 18 ++ part3.1.take 50
/-- Level 3's operations. -/
def seg3 : List (HloOp τ sig (Elt Ideal)) := part3.1.drop 50 ++ part4.1.take 56
/-- The operations after the last level. -/
def seg4 : List (HloOp τ sig (Elt Ideal)) := part4.1.drop 56

/-- The line is its five segments one after the other. -/
theorem ops_eq : ops = seg0 ++ (seg1 ++ (seg2 ++ (seg3 ++ seg4))) := rfl

end Cert.ReferenceIdeal.Line
-- ==== Proof.Ref.Run.lean ====
module

public import proofs.«01_k».proof.Proof.Ref.Ops

/-! # The reference's run

The run of the line: every buffer ends at the fold of the operations. -/

@[expose] public section

set_option maxRecDepth 16384
set_option maxHeartbeats 2000000

noncomputable section

namespace Cert.ReferenceIdeal.Line

open Idealize.ShloMosaic Idealize.ShloMosaic.TcCoe Idealize.ShloMosaic.StableHlo Idealize.SL.Sem
open Cert.ReferenceIdeal Cert.ReferenceIdeal.Gen

/-- The first piece's operations touch the program's buffers only. -/
theorem part0_sub : part0.1.Forall fun op => op.bufs ⊆ tcRefs τ sig :=
  ⟨nullary_bufs_sub .., unary_bufs_sub .., nullary_bufs_sub .., unary_bufs_sub .., unary_bufs_sub ..,
    reshape_bufs_sub .., binary_bufs_sub .., nullary_bufs_sub .., binary_bufs_sub .., unary_bufs_sub ..,
    binary_bufs_sub .., nullary_bufs_sub .., binary_bufs_sub .., unary_bufs_sub .., unary_bufs_sub ..,
    unary_bufs_sub .., binary_bufs_sub .., unary_bufs_sub .., binary_bufs_sub .., nullary_bufs_sub ..,
    unary_bufs_sub .., binary_bufs_sub .., binary_bufs_sub .., nullary_bufs_sub .., binary_bufs_sub ..,
    unary_bufs_sub .., unary_bufs_sub .., binary_bufs_sub .., nullary_bufs_sub .., unary_bufs_sub ..,
    binary_bufs_sub .., nullary_bufs_sub .., binary_bufs_sub .., nullary_bufs_sub .., unary_bufs_sub ..,
    binary_bufs_sub .., unary_bufs_sub .., unary_bufs_sub .., binary_bufs_sub .., unary_bufs_sub ..,
    nullary_bufs_sub .., binary_bufs_sub .., unary_bufs_sub .., unary_bufs_sub .., binary_bufs_sub ..,
    binary_bufs_sub .., nullary_bufs_sub .., nullary_bufs_sub .., nullary_bufs_sub .., quaternary_bufs_sub ..,
    quaternary_bufs_sub .., unary_bufs_sub .., nullary_bufs_sub .., unary_bufs_sub .., binary_bufs_sub ..,
    nullary_bufs_sub .., unary_bufs_sub .., binary_bufs_sub .., ternary_bufs_sub .., unary_bufs_sub ..,
    nullary_bufs_sub .., nullary_bufs_sub .., unary_bufs_sub .., binary_bufs_sub .., unary_bufs_sub ..,
    unary_bufs_sub .., binary_bufs_sub .., binary_bufs_sub .., nullary_bufs_sub .., binary_bufs_sub ..,
    binary_bufs_sub .., unary_bufs_sub .., nullary_bufs_sub .., unary_bufs_sub .., ternary_bufs_sub ..,
    binary_bufs_sub .., binary_bufs_sub .., binary_bufs_sub .., binary_bufs_sub .., binary_bufs_sub ..,
    nullary_bufs_sub .., binary_bufs_sub .., nullary_bufs_sub .., binary_bufs_sub .., nullary_bufs_sub ..,
    binary_bufs_sub ..⟩

/-- The second piece's operations touch the program's buffers only. -/
theorem part1_sub : part1.1.Forall fun op => op.bufs ⊆ tcRefs τ sig :=
  ⟨nullary_bufs_sub .., binary_bufs_sub .., binary_bufs_sub .., binary_bufs_sub .., nullary_bufs_sub ..,
    binary_bufs_sub .., nullary_bufs_sub .., binary_bufs_sub .., nullary_bufs_sub .., binary_bufs_sub ..,
    nullary_bufs_sub .., binary_bufs_sub .., unary_bufs_sub .., reshape_bufs_sub .., binary_bufs_sub ..,
    nullary_bufs_sub .., binary_bufs_sub .., unary_bufs_sub .., binary_bufs_sub .., nullary_bufs_sub ..,
    binary_bufs_sub .., unary_bufs_sub .., unary_bufs_sub .., unary_bufs_sub .., binary_bufs_sub ..,
    unary_bufs_sub .., binary_bufs_sub .., nullary_bufs_sub .., unary_bufs_sub .., binary_bufs_sub ..,
    binary_bufs_sub .., nullary_bufs_sub .., binary_bufs_sub .., unary_bufs_sub .., unary_bufs_sub ..,
    binary_bufs_sub .., nullary_bufs_sub .., unary_bufs_sub .., binary_bufs_sub .., nullary_bufs_sub ..,
    binary_bufs_sub .., nullary_bufs_sub .., unary_bufs_sub .., binary_bufs_sub .., unary_bufs_sub ..,
    unary_bufs_sub .., binary_bufs_sub .., unary_bufs_sub .., nullary_bufs_sub .., binary_bufs_sub ..,
    unary_bufs_sub .., unary_bufs_sub .., binary_bufs_sub .., binary_bufs_sub .., nullary_bufs_sub ..,
    nullary_bufs_sub .., nullary_bufs_sub .., quaternary_bufs_sub .., quaternary_bufs_sub .., unary_bufs_sub ..,
    nullary_bufs_sub .., unary_bufs_sub .., binary_bufs_sub .., nullary_bufs_sub .., unary_bufs_sub ..,
    binary_bufs_sub .., ternary_bufs_sub .., unary_bufs_sub .., nullary_bufs_sub .., nullary_bufs_sub ..,
    unary_bufs_sub .., binary_bufs_sub .., unary_bufs_sub .., unary_bufs_sub .., binary_bufs_sub ..,
    binary_bufs_sub .., nullary_bufs_sub .., binary_bufs_sub .., binary_bufs_sub .., unary_bufs_sub ..,
    nullary_bufs_sub .., unary_bufs_sub .., ternary_bufs_sub .., binary_bufs_sub .., binary_bufs_sub ..,
    binary_bufs_sub ..⟩

/-- The third piece's operations touch the program's buffers only. -/
theorem part2_sub : part2.1.Forall fun op => op.bufs ⊆ tcRefs τ sig :=
  ⟨binary_bufs_sub .., binary_bufs_sub .., nullary_bufs_sub .., binary_bufs_sub .., nullary_bufs_sub ..,
    binary_bufs_sub .., nullary_bufs_sub .., binary_bufs_sub .., binary_bufs_sub .., binary_bufs_sub ..,
    binary_bufs_sub .., nullary_bufs_sub .., binary_bufs_sub .., nullary_bufs_sub .., binary_bufs_sub ..,
    nullary_bufs_sub .., binary_bufs_sub .., binary_bufs_sub .., unary_bufs_sub .., reshape_bufs_sub ..,
    binary_bufs_sub .., nullary_bufs_sub .., binary_bufs_sub .., unary_bufs_sub .., binary_bufs_sub ..,
    nullary_bufs_sub .., binary_bufs_sub .., unary_bufs_sub .., unary_bufs_sub .., unary_bufs_sub ..,
    binary_bufs_sub .., unary_bufs_sub .., binary_bufs_sub .., nullary_bufs_sub .., unary_bufs_sub ..,
    binary_bufs_sub .., binary_bufs_sub .., nullary_bufs_sub .., binary_bufs_sub .., unary_bufs_sub ..,
    unary_bufs_sub .., binary_bufs_sub .., nullary_bufs_sub .., unary_bufs_sub .., binary_bufs_sub ..,
    nullary_bufs_sub .., binary_bufs_sub .., nullary_bufs_sub .., unary_bufs_sub .., binary_bufs_sub ..,
    unary_bufs_sub .., unary_bufs_sub .., binary_bufs_sub .., unary_bufs_sub .., nullary_bufs_sub ..,
    binary_bufs_sub .., unary_bufs_sub .., unary_bufs_sub .., binary_bufs_sub .., binary_bufs_sub ..⟩

/-- The fourth piece's operations touch the program's buffers only. -/
theorem part3_sub : part3.1.Forall fun op => op.bufs ⊆ tcRefs τ sig :=
  ⟨nullary_bufs_sub .., nullary_bufs_sub .., nullary_bufs_sub .., quaternary_bufs_sub .., quaternary_bufs_sub ..,
    unary_bufs_sub .., nullary_bufs_sub .., unary_bufs_sub .., binary_bufs_sub .., nullary_bufs_sub ..,
    unary_bufs_sub .., binary_bufs_sub .., ternary_bufs_sub .., unary_bufs_sub .., nullary_bufs_sub ..,
    nullary_bufs_sub .., unary_bufs_sub .., binary_bufs_sub .., unary_bufs_sub .., unary_bufs_sub ..,
    binary_bufs_sub .., binary_bufs_sub .., nullary_bufs_sub .., binary_bufs_sub .., binary_bufs_sub ..,
    unary_bufs_sub .., nullary_bufs_sub .., unary_bufs_sub .., ternary_bufs_sub .., binary_bufs_sub ..,
    binary_bufs_sub .., binary_bufs_sub .., binary_bufs_sub .., binary_bufs_sub .., nullary_bufs_sub ..,
    binary_bufs_sub .., nullary_bufs_sub .., binary_bufs_sub .., nullary_bufs_sub .., binary_bufs_sub ..,
    binary_bufs_sub .., binary_bufs_sub .., binary_bufs_sub .., nullary_bufs_sub .., binary_bufs_sub ..,
    nullary_bufs_sub .., binary_bufs_sub .., nullary_bufs_sub .., binary_bufs_sub .., binary_bufs_sub ..,
    unary_bufs_sub .., reshape_bufs_sub .., binary_bufs_sub .., nullary_bufs_sub .., binary_bufs_sub ..,
    unary_bufs_sub .., binary_bufs_sub .., nullary_bufs_sub .., binary_bufs_sub .., unary_bufs_sub ..,
    unary_bufs_sub .., unary_bufs_sub .., binary_bufs_sub .., unary_bufs_sub .., binary_bufs_sub ..,
    nullary_bufs_sub .., unary_bufs_sub .., binary_bufs_sub .., binary_bufs_sub .., nullary_bufs_sub ..,
    binary_bufs_sub .., unary_bufs_sub .., unary_bufs_sub .., binary_bufs_sub .., nullary_bufs_sub ..,
    unary_bufs_sub .., binary_bufs_sub .., nullary_bufs_sub .., binary_bufs_sub .., nullary_bufs_sub ..,
    unary_bufs_sub .., binary_bufs_sub .., unary_bufs_sub .., unary_bufs_sub .., binary_bufs_sub ..,
    unary_bufs_sub ..⟩

/-- The last piece's operations touch the program's buffers only. -/
theorem part4_sub : part4.1.Forall fun op => op.bufs ⊆ tcRefs τ sig :=
  ⟨nullary_bufs_sub .., binary_bufs_sub .., unary_bufs_sub .., unary_bufs_sub .., binary_bufs_sub ..,
    binary_bufs_sub .., nullary_bufs_sub .., nullary_bufs_sub .., nullary_bufs_sub .., quaternary_bufs_sub ..,
    quaternary_bufs_sub .., unary_bufs_sub .., nullary_bufs_sub .., unary_bufs_sub .., binary_bufs_sub ..,
    nullary_bufs_sub .., unary_bufs_sub .., binary_bufs_sub .., ternary_bufs_sub .., unary_bufs_sub ..,
    nullary_bufs_sub .., nullary_bufs_sub .., unary_bufs_sub .., binary_bufs_sub .., unary_bufs_sub ..,
    unary_bufs_sub .., binary_bufs_sub .., binary_bufs_sub .., nullary_bufs_sub .., binary_bufs_sub ..,
    binary_bufs_sub .., unary_bufs_sub .., nullary_bufs_sub .., unary_bufs_sub .., ternary_bufs_sub ..,
    binary_bufs_sub .., binary_bufs_sub .., binary_bufs_sub .., binary_bufs_sub .., binary_bufs_sub ..,
    nullary_bufs_sub .., binary_bufs_sub .., nullary_bufs_sub .., binary_bufs_sub .., nullary_bufs_sub ..,
    binary_bufs_sub .., binary_bufs_sub .., binary_bufs_sub .., binary_bufs_sub .., nullary_bufs_sub ..,
    binary_bufs_sub .., nullary_bufs_sub .., binary_bufs_sub .., nullary_bufs_sub .., binary_bufs_sub ..,
    binary_bufs_sub .., binary_bufs_sub .., binary_bufs_sub .., nullary_bufs_sub .., binary_bufs_sub ..,
    nullary_bufs_sub .., binary_bufs_sub .., nullary_bufs_sub .., binary_bufs_sub .., binary_bufs_sub ..,
    binary_bufs_sub .., nullary_bufs_sub .., binary_bufs_sub .., nullary_bufs_sub .., binary_bufs_sub ..,
    nary_bufs_sub ..⟩

/-- The first piece's operations determine their results. -/
theorem part0_fresh : ∀ op ∈ part0.1, op.fresh = ∅ := by
  intro _ h; (repeat (cases h with | head => rfl | tail _ h => ?_)); exact nomatch h

/-- The second piece's operations determine their results. -/
theorem part1_fresh : ∀ op ∈ part1.1, op.fresh = ∅ := by
  intro _ h; (repeat (cases h with | head => rfl | tail _ h => ?_)); exact nomatch h

/-- The third piece's operations determine their results. -/
theorem part2_fresh : ∀ op ∈ part2.1, op.fresh = ∅ := by
  intro _ h; (repeat (cases h with | head => rfl | tail _ h => ?_)); exact nomatch h

/-- The fourth piece's operations determine their results. -/
theorem part3_fresh : ∀ op ∈ part3.1, op.fresh = ∅ := by
  intro _ h; (repeat (cases h with | head => rfl | tail _ h => ?_)); exact nomatch h

/-- The last piece's operations determine their results. -/
theorem part4_fresh : ∀ op ∈ part4.1, op.fresh = ∅ := by
  intro _ h; (repeat (cases h with | head => rfl | tail _ h => ?_)); exact nomatch h

/-- All operations touch the program's buffers only. -/
theorem ops_sub : ops.Forall fun op => op.bufs ⊆ tcRefs τ sig := by
  simp only [ops, List.forall_append]
  exact ⟨part0_sub, part1_sub, part2_sub, part3_sub, part4_sub⟩

/-- All operations determine their results. -/
theorem ops_fresh : ∀ op ∈ ops, op.fresh = ∅ := by
  simp only [ops, List.mem_append]
  rintro op (h | h | h | h | h)
  exacts [part0_fresh op h, part1_fresh op h, part2_fresh op h, part3_fresh op h, part4_fresh op h]

/-- The reference runs, and every buffer ends at the line's fold over what it held. -/
theorem run_main (m : (ℓ : Loc nD τ sig) → Buf (Elt Ideal) ℓ) (ρ : Dev nD → PrngReg) :
    θ_run (defs (F := Ideal)) (onTc (τ := τ) (main (F := Ideal))) ⟨m, fun _ => 0, ρ⟩ fun r =>
      ∀ (c : Dev nD) (b : Ref sig .tc),
        r.2.mem ((c.tc : Thread nD τ).loc b) = after ops (launchContents m c) (Proc.devRef .tc b) :=
  run_hlo defs main main_isSeq (by decide) (by decide)
    ops_sub ops_fresh m ρ

end Cert.ReferenceIdeal.Line
-- ==== Proof.Ref.Level.lean ====
module

public import proofs.«01_k».proof.Defs
public import proofs.«01_k».proof.ReferenceIdeal
public import proofs.«01_k».proof.Proof.Gen.ReferenceIdeal
public import Idealize.ShloMosaic.Lib.Claim

/-! # One level of the reference, as vector functions

The reference runs the same level four times. These functions are that level over a residual and the level's codes. -/

@[expose] public section

set_option maxRecDepth 16384

noncomputable section

namespace Cert.ReferenceIdeal.Line

open Idealize.ShloMosaic Idealize.ShloMosaic.StableHlo
open Cert.ReferenceIdeal Cert.ReferenceIdeal.Gen

/-- All residuals (or any array of the input's shape). -/
abbrev Rows := FVec Ideal S8192x256 .f32
/-- The codes of one level. -/
abbrev Codes := FVec Ideal S1024x256 .f32
/-- One number per residual and code. -/
abbrev Table := FVec Ideal S8192x1024 .f32
/-- One number. -/
abbrev Scalar := FVec Ideal S_ .f32

/-- The zero array every running total starts from. -/
def zeros : Rows := broadcastInDim S8192x256 ![] bcast_S_S8192x256 (constant S_ .f32 0x00000000#32)

/-- Squared lengths of the residuals plus squared lengths of the codes, less twice the products. -/
def diff (r : Rows) (c : Codes) : Table :=
  subf
    (addf
      (broadcastInDim S8192x1024 ![0, 1] bcast_S8192x1_S8192x1024_0_1
        (broadcastInDim S8192x1 ![0] bcast_S8192_S8192x1_0
          (Host.reduceAdd (mulf r r) (constant S_ .f32 0x00000000#32) reducesTo_S8192x256_S8192_d1 h_S_)))
      (broadcastInDim S8192x1024 ![0, 1] bcast_S1x1024_S8192x1024_0_1
        (broadcastInDim S1x1024 ![1] bcast_S1024_S1x1024_1
          (Host.reduceAdd (mulf c c) (constant S_ .f32 0x00000000#32) reducesTo_S1024x256_S1024_d1 h_S_))))
    (mulf (broadcastInDim S8192x1024 ![] bcast_S_S8192x1024 (constant S_ .f32 0x40000000#32))
      (Host.dotGeneral dot_S8192x256_S256x1024_S8192x1024_1_0_0_1_n_n none r
        (transpose S256x1024 [1, 0] c transposes_S1024x256_S256x1024_1_0)))

/-- A table divided by each row's largest entry, negated. -/
def negNorm (t : Table) : Table :=
  mulf (broadcastInDim S8192x1024 ![] bcast_S_S8192x1024 (constant S_ .f32 0xBF800000#32))
    (Host.divf t
      (broadcastInDim S8192x1024 ![0, 1] bcast_S8192x1_S8192x1024_0_1
        (broadcastInDim S8192x1 ![0] bcast_S8192_S8192x1_0
          (Host.reduce FloatOps.maximumf t (constant S_ .f32 0xFF800000#32) reducesTo_S8192x1024_S8192_d1 h_S_))))

/-- The exponentials of a table less its row maxima. -/
def expo (t : Table) : Table :=
  Host.exp (subf t
    (broadcastInDim S8192x1024 ![0, 1] bcast_S8192x1_S8192x1024_0_1
      (broadcastInDim S8192x1 ![0] bcast_S8192_S8192x1_0
        (maximumf (broadcastInDim S8192 ![] bcast_S_S8192 (constant S_ .f32 0xFF800000#32))
          (Host.reduce FloatOps.maximumf t (constant S_ .f32 0xFF800000#32) reducesTo_S8192x1024_S8192_d1 h_S_)))))

/-- The exponentials divided by their row sums, times the codes. -/
def mix (e : Table) (c : Codes) : Rows :=
  Host.dotGeneral dot_S8192x1024_S1024x256_S8192x256_1_0_0_1_n_n none
    (Host.divf e
      (broadcastInDim S8192x1024 ![0, 1] bcast_S8192x1_S8192x1024_0_1
        (broadcastInDim S8192x1 ![0] bcast_S8192_S8192x1_0
          (Host.reduceAdd e (constant S_ .f32 0x00000000#32) reducesTo_S8192x1024_S8192_d1 h_S_))))
    c

/-- The index of each row's first largest entry. -/
def first (t : Table) : IVec S8192 32 := fun j =>
  (Host.argReduce reducer_argmax_f32_i32 t (iotaInDim S8192x1024 32 1) (constant (F := Ideal) S_ .f32 0xFF800000#32)
    (constantI S_ 32 0#32) reducesTo_S8192x1024_S8192_d1 h_S_ j).2

/-- An index counted from the end where it is negative. -/
def wrap (i : IVec S8192 32) : IVec S8192x1 32 :=
  broadcastInDim S8192x1 ![0] bcast_S8192_S8192x1_0
    (select (cmpi .slt i (broadcastInDim S8192 ![] bcast_S_S8192 (constantI S_ 32 0#32)))
      (addi i (broadcastInDim S8192 ![] bcast_S_S8192 (constantI S_ 32 1024#32))) i)

/-- Which indices lie in bounds. -/
def inside (i : IVec S8192x1 32) : IVec S8192 1 :=
  Host.reduce IntOp.andi
    (andi (cmpi .sge i (broadcastInDim S8192x1 ![] bcast_S_S8192x1 (constantI S_ 32 0#32)))
      (cmpi .sle i (broadcastInDim S8192x1 ![0, 1] bcast_S1x1_S8192x1_0_1
        (broadcastInDim S1x1 ![1] bcast_S1_S1x1_1 (constantI S1 32 1023#32)))))
    (constantI S_ 1 1#1) reducesTo_S8192x1_S8192_d1 h_S_

/-- The codes at the indices; a fixed value where an index is out of bounds. -/
def pick (c : Codes) (i : IVec S8192 32) : Rows :=
  select (broadcastInDim S8192x256 ![0] bcast_S8192_S8192x256_0 (inside (wrap i)))
    (Host.gather gather_S1024x256_S8192x1_S8192x256_1_0_n_n_0_1_1256 c (wrap i))
    (broadcastInDim S8192x256 ![] bcast_S_S8192x256 (constant S_ .f32 0x7FC00000#32))

/-- The index of the nearest code. -/
def code (r : Rows) (c : Codes) : IVec S8192 32 := first (negNorm (diff r c))
/-- The nearest code. -/
def hard (r : Rows) (c : Codes) : Rows := pick c (code r c)
/-- The average of the codes weighted by nearness. -/
def soft (r : Rows) (c : Codes) : Rows := mix (expo (negNorm (diff r c))) c
/-- One array less another. -/
def minus (x y : Rows) : Rows := subf x y
/-- What is left of the residual. -/
def rest (r : Rows) (c : Codes) : Rows := minus r (hard r c)
/-- The indices as a column. -/
def column (i : IVec S8192 32) : IVec S8192x1 32 := broadcastInDim S8192x1 ![0] bcast_S8192_S8192x1_0 i

/-- The mean over the rows of the squared length of the difference of two arrays. -/
def meanSq (x y : Rows) : Scalar :=
  Host.divf
    (Host.reduceAdd
      (Host.reduceAdd (mulf (subf x y) (subf x y)) (constant S_ .f32 0x00000000#32) reducesTo_S8192x256_S8192_d1 h_S_)
      (constant S_ .f32 0x00000000#32) reducesTo_S8192_S_d0 h_S_)
    (constant S_ .f32 0x46000000#32)

/-- The mean over all entries of the squared difference of two arrays. -/
def meanAll (x y : Rows) : Scalar :=
  Host.divf
    (Host.reduceAdd (mulf (subf x y) (subf x y)) (constant S_ .f32 0x00000000#32) reducesTo_S8192x256_S_d0_1 h_S_)
    (constant S_ .f32 0x4A000000#32)

/-- A running array with one more term. -/
def plus (x y : Rows) : Rows := addf x y
/-- A running total with one more term. -/
def plus₀ (x y : Scalar) : Scalar := addf x y

/-- The codes of level 0, the slice at 0 with its leading axis dropped. -/
def codes0 (b : FVec Ideal S4x1024x256 .f32) : Codes :=
  shapeCast S1024x256 (extractStridedSlice S1x1024x256 ![0, 0, 0] b slices_S4x1024x256_S1x1024x256_0_0_0) shapeCasts_S1x1024x256_S1024x256
/-- The codes of level 1. -/
def codes1 (b : FVec Ideal S4x1024x256 .f32) : Codes :=
  shapeCast S1024x256 (extractStridedSlice S1x1024x256 ![1, 0, 0] b slices_S4x1024x256_S1x1024x256_1_0_0) shapeCasts_S1x1024x256_S1024x256
/-- The codes of level 2. -/
def codes2 (b : FVec Ideal S4x1024x256 .f32) : Codes :=
  shapeCast S1024x256 (extractStridedSlice S1x1024x256 ![2, 0, 0] b slices_S4x1024x256_S1x1024x256_2_0_0) shapeCasts_S1x1024x256_S1024x256
/-- The codes of level 3. -/
def codes3 (b : FVec Ideal S4x1024x256 .f32) : Codes :=
  shapeCast S1024x256 (extractStridedSlice S1x1024x256 ![3, 0, 0] b slices_S4x1024x256_S1x1024x256_3_0_0) shapeCasts_S1x1024x256_S1024x256

end Cert.ReferenceIdeal.Line
-- ==== Proof.Ref.Seg0.lean ====
module

public import proofs.«01_k».proof.Proof.Ref.Ops
public import proofs.«01_k».proof.Proof.Ref.Level

/-! # What level 0 of the reference leaves in its buffers

The level's operations are cut at the negated table, the weighted average, the index and the code it names, so that each
piece reads only what the pieces before it left. -/

@[expose] public section

set_option maxRecDepth 16384
set_option maxHeartbeats 2000000

noncomputable section

namespace Cert.ReferenceIdeal.Line

open Idealize.ShloMosaic Idealize.ShloMosaic.TcCoe Idealize.ShloMosaic.StableHlo Idealize.SL.Sem
open Cert.ReferenceIdeal Cert.ReferenceIdeal.Gen

namespace L0

/-- The operations up to the negated table. -/
def near : List (HloOp τ sig (Elt Ideal)) := seg0.take 31
/-- The operations of the weighted average. -/
def average : List (HloOp τ sig (Elt Ideal)) := (seg0.drop 31).take 15
/-- The operations of the index. -/
def index : List (HloOp τ sig (Elt Ideal)) := (seg0.drop 46).take 6
/-- The operations that pick the code. -/
def choose : List (HloOp τ sig (Elt Ideal)) := (seg0.drop 52).take 23
/-- The operations that update the running arrays. -/
def update : List (HloOp τ sig (Elt Ideal)) := seg0.drop 75

/-- The level is its pieces in order. -/
theorem pieces : seg0 = near ++ (average ++ (index ++ (choose ++ update))) := rfl

variable (V : Valuation τ sig (Elt Ideal))

/-- The codes and the negated table. -/
theorem near_reads :
    after near V (Proc.devRef .tc main_v3) = codes0 (V (Proc.devRef .tc main_arg1))
    ∧ after near V (Proc.devRef .tc main_v23) = negNorm (diff (V (Proc.devRef .tc main_arg0)) (codes0 (V (Proc.devRef .tc main_arg1)))) := by
  refine ⟨?_, ?_⟩ <;> after_reads_simp <;> rfl

/-- The weighted average; the codes and the table stay. -/
theorem average_reads :
    after average V (Proc.devRef .tc main_v35) = mix (expo (V (Proc.devRef .tc main_v23))) (V (Proc.devRef .tc main_v3))
    ∧ after average V (Proc.devRef .tc main_v3) = V (Proc.devRef .tc main_v3)
    ∧ after average V (Proc.devRef .tc main_v23) = V (Proc.devRef .tc main_v23) := by
  refine ⟨?_, ?_, ?_⟩ <;> after_reads_simp <;> rfl

/-- The index and its column; the codes and the average stay. -/
theorem index_reads :
    after index V (Proc.devRef .tc main_v36) = first (V (Proc.devRef .tc main_v23))
    ∧ after index V (Proc.devRef .tc main_v37) = column (first (V (Proc.devRef .tc main_v23)))
    ∧ after index V (Proc.devRef .tc main_v3) = V (Proc.devRef .tc main_v3)
    ∧ after index V (Proc.devRef .tc main_v35) = V (Proc.devRef .tc main_v35) := by
  refine ⟨?_, ?_, ?_, ?_⟩ <;> after_reads_simp [TRef.ofBuf_toBuf] <;> rfl

/-- The code picked; the column and the average stay. -/
theorem choose_reads :
    after choose V (Proc.devRef .tc main_v38) = pick (V (Proc.devRef .tc main_v3)) (V (Proc.devRef .tc main_v36))
    ∧ after choose V (Proc.devRef .tc main_v37) = V (Proc.devRef .tc main_v37)
    ∧ after choose V (Proc.devRef .tc main_v35) = V (Proc.devRef .tc main_v35) := by
  refine ⟨?_, ?_, ?_⟩ <;> after_reads_simp [TRef.ofBuf_toBuf] <;> rfl

/-- The running arrays and totals. -/
theorem update_reads :
    after update V (Proc.devRef .tc main_v39) = minus (V (Proc.devRef .tc main_arg0)) (V (Proc.devRef .tc main_v38))
    ∧ after update V (Proc.devRef .tc main_v40) = plus (V (Proc.devRef .tc main_v0)) (V (Proc.devRef .tc main_v35))
    ∧ after update V (Proc.devRef .tc main_v41) = plus (V (Proc.devRef .tc main_v1)) (V (Proc.devRef .tc main_v38))
    ∧ after update V (Proc.devRef .tc main_v47) = plus₀ (constant S_ .f32 0x00000000#32)
        (meanSq (V (Proc.devRef .tc main_arg0)) (plus (V (Proc.devRef .tc main_v0)) (V (Proc.devRef .tc main_v35))))
    ∧ after update V (Proc.devRef .tc main_v53) = plus₀ (constant S_ .f32 0x00000000#32)
        (meanSq (V (Proc.devRef .tc main_arg0)) (plus (V (Proc.devRef .tc main_v1)) (V (Proc.devRef .tc main_v38))))
    ∧ after update V (Proc.devRef .tc main_v37) = V (Proc.devRef .tc main_v37) := by
  refine ⟨?_, ?_, ?_, ?_, ?_, ?_⟩ <;> after_reads_simp <;> rfl

/-- What the pieces before the update leave, for the update to read. -/
def before : Valuation τ sig (Elt Ideal) := after choose (after index (after average (after near V)))

/-- The code, the average and the column the update reads. -/
theorem before_new :
    before V (Proc.devRef .tc main_v38) = hard (V (Proc.devRef .tc main_arg0)) (codes0 (V (Proc.devRef .tc main_arg1)))
    ∧ before V (Proc.devRef .tc main_v35) = soft (V (Proc.devRef .tc main_arg0)) (codes0 (V (Proc.devRef .tc main_arg1)))
    ∧ before V (Proc.devRef .tc main_v37) = column (code (V (Proc.devRef .tc main_arg0)) (codes0 (V (Proc.devRef .tc main_arg1)))) := by
  unfold before
  obtain ⟨n1, n2⟩ := near_reads V
  generalize after near V = V1 at n1 n2 ⊢
  obtain ⟨a1, a2, a3⟩ := average_reads V1
  generalize after average V1 = V2 at a1 a2 a3 ⊢
  obtain ⟨i1, i2, i3, i4⟩ := index_reads V2
  generalize after index V2 = V3 at i1 i2 i3 i4 ⊢
  obtain ⟨c1, c2, c3⟩ := choose_reads V3
  generalize after choose V3 = V4 at c1 c2 c3 ⊢
  refine ⟨?_, ?_, ?_⟩
  · rw [c1, i1, i3, a2, a3, n1, n2]; rfl
  · rw [c3, i4, a1, n1, n2]; rfl
  · rw [c2, i2, a3, n2]; rfl

/-- What the update reads from before the level. -/
theorem before_old :
    before V (Proc.devRef .tc main_arg0) = V (Proc.devRef .tc main_arg0)
    ∧ before V (Proc.devRef .tc main_v0) = zeros
    ∧ before V (Proc.devRef .tc main_v1) = zeros := by
  unfold before
  refine ⟨?_, ?_, ?_⟩ <;> after_reads_simp <;> rfl

/-- What level 0 leaves. -/
theorem reads :
    after seg0 V (Proc.devRef .tc main_v39) = rest (V (Proc.devRef .tc main_arg0)) (codes0 (V (Proc.devRef .tc main_arg1)))
    ∧ after seg0 V (Proc.devRef .tc main_v40) = plus zeros (soft (V (Proc.devRef .tc main_arg0)) (codes0 (V (Proc.devRef .tc main_arg1))))
    ∧ after seg0 V (Proc.devRef .tc main_v41) = plus zeros (hard (V (Proc.devRef .tc main_arg0)) (codes0 (V (Proc.devRef .tc main_arg1))))
    ∧ after seg0 V (Proc.devRef .tc main_v47) = plus₀ (constant S_ .f32 0x00000000#32)
        (meanSq (V (Proc.devRef .tc main_arg0)) (plus zeros (soft (V (Proc.devRef .tc main_arg0)) (codes0 (V (Proc.devRef .tc main_arg1))))))
    ∧ after seg0 V (Proc.devRef .tc main_v53) = plus₀ (constant S_ .f32 0x00000000#32)
        (meanSq (V (Proc.devRef .tc main_arg0)) (plus zeros (hard (V (Proc.devRef .tc main_arg0)) (codes0 (V (Proc.devRef .tc main_arg1))))))
    ∧ after seg0 V (Proc.devRef .tc main_v37) = column (code (V (Proc.devRef .tc main_arg0)) (codes0 (V (Proc.devRef .tc main_arg1)))) := by
  obtain ⟨b1, b2, b3⟩ := before_new V
  obtain ⟨o0, o1, o2⟩ := before_old V
  rw [pieces, after_append, after_append, after_append, after_append]
  change after update (before V) _ = _ ∧ after update (before V) _ = _ ∧ after update (before V) _ = _
    ∧ after update (before V) _ = _ ∧ after update (before V) _ = _ ∧ after update (before V) _ = _
  generalize before V = B at *
  obtain ⟨u1, u2, u3, u4, u5, u6⟩ := update_reads B
  rw [u1, u2, u3, u4, u5, u6, b1, b2, b3, o0, o1, o2]
  exact ⟨rfl, rfl, rfl, rfl, rfl, rfl⟩

/-- Level 0 leaves the two arguments as they were. -/
theorem keeps :
    after seg0 V (Proc.devRef .tc main_arg0) = V (Proc.devRef .tc main_arg0)
    ∧ after seg0 V (Proc.devRef .tc main_arg1) = V (Proc.devRef .tc main_arg1) := by
  refine ⟨?_, ?_⟩ <;> after_reads_simp

end L0

end Cert.ReferenceIdeal.Line
-- ==== Proof.Ref.Seg1.lean ====
module

public import proofs.«01_k».proof.Proof.Ref.Ops
public import proofs.«01_k».proof.Proof.Ref.Level

/-! # What level 1 of the reference leaves in its buffers

The level's operations are cut at the negated table, the weighted average, the index and the code it names, so that each
piece reads only what the pieces before it left. -/

@[expose] public section

set_option maxRecDepth 16384
set_option maxHeartbeats 2000000

noncomputable section

namespace Cert.ReferenceIdeal.Line

open Idealize.ShloMosaic Idealize.ShloMosaic.TcCoe Idealize.ShloMosaic.StableHlo Idealize.SL.Sem
open Cert.ReferenceIdeal Cert.ReferenceIdeal.Gen

namespace L1

/-- The operations up to the negated table. -/
def near : List (HloOp τ sig (Elt Ideal)) := seg1.take 27
/-- The operations of the weighted average. -/
def average : List (HloOp τ sig (Elt Ideal)) := (seg1.drop 27).take 15
/-- The operations of the index. -/
def index : List (HloOp τ sig (Elt Ideal)) := (seg1.drop 42).take 6
/-- The operations that pick the code. -/
def choose : List (HloOp τ sig (Elt Ideal)) := (seg1.drop 48).take 23
/-- The operations that update the running arrays. -/
def update : List (HloOp τ sig (Elt Ideal)) := seg1.drop 71

/-- The level is its pieces in order. -/
theorem pieces : seg1 = near ++ (average ++ (index ++ (choose ++ update))) := rfl

variable (V : Valuation τ sig (Elt Ideal))

/-- The codes and the negated table. -/
theorem near_reads :
    after near V (Proc.devRef .tc main_v55) = codes1 (V (Proc.devRef .tc main_arg1))
    ∧ after near V (Proc.devRef .tc main_v75) = negNorm (diff (V (Proc.devRef .tc main_v39)) (codes1 (V (Proc.devRef .tc main_arg1)))) := by
  refine ⟨?_, ?_⟩ <;> after_reads_simp <;> rfl

/-- The weighted average; the codes and the table stay. -/
theorem average_reads :
    after average V (Proc.devRef .tc main_v87) = mix (expo (V (Proc.devRef .tc main_v75))) (V (Proc.devRef .tc main_v55))
    ∧ after average V (Proc.devRef .tc main_v55) = V (Proc.devRef .tc main_v55)
    ∧ after average V (Proc.devRef .tc main_v75) = V (Proc.devRef .tc main_v75) := by
  refine ⟨?_, ?_, ?_⟩ <;> after_reads_simp <;> rfl

/-- The index and its column; the codes and the average stay. -/
theorem index_reads :
    after index V (Proc.devRef .tc main_v88) = first (V (Proc.devRef .tc main_v75))
    ∧ after index V (Proc.devRef .tc main_v89) = column (first (V (Proc.devRef .tc main_v75)))
    ∧ after index V (Proc.devRef .tc main_v55) = V (Proc.devRef .tc main_v55)
    ∧ after index V (Proc.devRef .tc main_v87) = V (Proc.devRef .tc main_v87) := by
  refine ⟨?_, ?_, ?_, ?_⟩ <;> after_reads_simp [TRef.ofBuf_toBuf] <;> rfl

/-- The code picked; the column and the average stay. -/
theorem choose_reads :
    after choose V (Proc.devRef .tc main_v90) = pick (V (Proc.devRef .tc main_v55)) (V (Proc.devRef .tc main_v88))
    ∧ after choose V (Proc.devRef .tc main_v89) = V (Proc.devRef .tc main_v89)
    ∧ after choose V (Proc.devRef .tc main_v87) = V (Proc.devRef .tc main_v87) := by
  refine ⟨?_, ?_, ?_⟩ <;> after_reads_simp [TRef.ofBuf_toBuf] <;> rfl

/-- The running arrays and totals. -/
theorem update_reads :
    after update V (Proc.devRef .tc main_v91) = minus (V (Proc.devRef .tc main_v39)) (V (Proc.devRef .tc main_v90))
    ∧ after update V (Proc.devRef .tc main_v92) = plus (V (Proc.devRef .tc main_v40)) (V (Proc.devRef .tc main_v87))
    ∧ after update V (Proc.devRef .tc main_v93) = plus (V (Proc.devRef .tc main_v41)) (V (Proc.devRef .tc main_v90))
    ∧ after update V (Proc.devRef .tc main_v99) = plus₀ (V (Proc.devRef .tc main_v47))
        (meanSq (V (Proc.devRef .tc main_arg0)) (plus (V (Proc.devRef .tc main_v40)) (V (Proc.devRef .tc main_v87))))
    ∧ after update V (Proc.devRef .tc main_v105) = plus₀ (V (Proc.devRef .tc main_v53))
        (meanSq (V (Proc.devRef .tc main_arg0)) (plus (V (Proc.devRef .tc main_v41)) (V (Proc.devRef .tc main_v90))))
    ∧ after update V (Proc.devRef .tc main_v89) = V (Proc.devRef .tc main_v89) := by
  refine ⟨?_, ?_, ?_, ?_, ?_, ?_⟩ <;> after_reads_simp <;> rfl

/-- What the pieces before the update leave, for the update to read. -/
def before : Valuation τ sig (Elt Ideal) := after choose (after index (after average (after near V)))

/-- The code, the average and the column the update reads. -/
theorem before_new :
    before V (Proc.devRef .tc main_v90) = hard (V (Proc.devRef .tc main_v39)) (codes1 (V (Proc.devRef .tc main_arg1)))
    ∧ before V (Proc.devRef .tc main_v87) = soft (V (Proc.devRef .tc main_v39)) (codes1 (V (Proc.devRef .tc main_arg1)))
    ∧ before V (Proc.devRef .tc main_v89) = column (code (V (Proc.devRef .tc main_v39)) (codes1 (V (Proc.devRef .tc main_arg1)))) := by
  unfold before
  obtain ⟨n1, n2⟩ := near_reads V
  generalize after near V = V1 at n1 n2 ⊢
  obtain ⟨a1, a2, a3⟩ := average_reads V1
  generalize after average V1 = V2 at a1 a2 a3 ⊢
  obtain ⟨i1, i2, i3, i4⟩ := index_reads V2
  generalize after index V2 = V3 at i1 i2 i3 i4 ⊢
  obtain ⟨c1, c2, c3⟩ := choose_reads V3
  generalize after choose V3 = V4 at c1 c2 c3 ⊢
  refine ⟨?_, ?_, ?_⟩
  · rw [c1, i1, i3, a2, a3, n1, n2]; rfl
  · rw [c3, i4, a1, n1, n2]; rfl
  · rw [c2, i2, a3, n2]; rfl

/-- What the update reads from before the level. -/
theorem before_old :
    before V (Proc.devRef .tc main_arg0) = V (Proc.devRef .tc main_arg0)
    ∧ before V (Proc.devRef .tc main_v39) = V (Proc.devRef .tc main_v39)
    ∧ before V (Proc.devRef .tc main_v40) = V (Proc.devRef .tc main_v40)
    ∧ before V (Proc.devRef .tc main_v41) = V (Proc.devRef .tc main_v41)
    ∧ before V (Proc.devRef .tc main_v47) = V (Proc.devRef .tc main_v47)
    ∧ before V (Proc.devRef .tc main_v53) = V (Proc.devRef .tc main_v53) := by
  unfold before
  refine ⟨?_, ?_, ?_, ?_, ?_, ?_⟩ <;> after_reads_simp

/-- What level 1 leaves. -/
theorem reads :
    after seg1 V (Proc.devRef .tc main_v91) = rest (V (Proc.devRef .tc main_v39)) (codes1 (V (Proc.devRef .tc main_arg1)))
    ∧ after seg1 V (Proc.devRef .tc main_v92) = plus (V (Proc.devRef .tc main_v40)) (soft (V (Proc.devRef .tc main_v39)) (codes1 (V (Proc.devRef .tc main_arg1))))
    ∧ after seg1 V (Proc.devRef .tc main_v93) = plus (V (Proc.devRef .tc main_v41)) (hard (V (Proc.devRef .tc main_v39)) (codes1 (V (Proc.devRef .tc main_arg1))))
    ∧ after seg1 V (Proc.devRef .tc main_v99) = plus₀ (V (Proc.devRef .tc main_v47))
        (meanSq (V (Proc.devRef .tc main_arg0)) (plus (V (Proc.devRef .tc main_v40)) (soft (V (Proc.devRef .tc main_v39)) (codes1 (V (Proc.devRef .tc main_arg1))))))
    ∧ after seg1 V (Proc.devRef .tc main_v105) = plus₀ (V (Proc.devRef .tc main_v53))
        (meanSq (V (Proc.devRef .tc main_arg0)) (plus (V (Proc.devRef .tc main_v41)) (hard (V (Proc.devRef .tc main_v39)) (codes1 (V (Proc.devRef .tc main_arg1))))))
    ∧ after seg1 V (Proc.devRef .tc main_v89) = column (code (V (Proc.devRef .tc main_v39)) (codes1 (V (Proc.devRef .tc main_arg1)))) := by
  obtain ⟨b1, b2, b3⟩ := before_new V
  obtain ⟨o0, o1, o2, o3, o4, o5⟩ := before_old V
  rw [pieces, after_append, after_append, after_append, after_append]
  change after update (before V) _ = _ ∧ after update (before V) _ = _ ∧ after update (before V) _ = _
    ∧ after update (before V) _ = _ ∧ after update (before V) _ = _ ∧ after update (before V) _ = _
  generalize before V = B at *
  obtain ⟨u1, u2, u3, u4, u5, u6⟩ := update_reads B
  rw [u1, u2, u3, u4, u5, u6, b1, b2, b3, o0, o1, o2, o3, o4, o5]
  exact ⟨rfl, rfl, rfl, rfl, rfl, rfl⟩

/-- Level 1 leaves the two arguments and the columns before it as they were. -/
theorem keeps :
    after seg1 V (Proc.devRef .tc main_arg0) = V (Proc.devRef .tc main_arg0)
    ∧ after seg1 V (Proc.devRef .tc main_arg1) = V (Proc.devRef .tc main_arg1)
    ∧ after seg1 V (Proc.devRef .tc main_v37) = V (Proc.devRef .tc main_v37) := by
  refine ⟨?_, ?_, ?_⟩ <;> after_reads_simp

end L1

end Cert.ReferenceIdeal.Line
-- ==== Proof.Ref.Seg2.lean ====
module

public import proofs.«01_k».proof.Proof.Ref.Ops
public import proofs.«01_k».proof.Proof.Ref.Level

/-! # What level 2 of the reference leaves in its buffers

The level's operations are cut at the negated table, the weighted average, the index and the code it names, so that each
piece reads only what the pieces before it left. -/

@[expose] public section

set_option maxRecDepth 16384
set_option maxHeartbeats 2000000

noncomputable section

namespace Cert.ReferenceIdeal.Line

open Idealize.ShloMosaic Idealize.ShloMosaic.TcCoe Idealize.ShloMosaic.StableHlo Idealize.SL.Sem
open Cert.ReferenceIdeal Cert.ReferenceIdeal.Gen

namespace L2

/-- The operations up to the negated table. -/
def near : List (HloOp τ sig (Elt Ideal)) := seg2.take 27
/-- The operations of the weighted average. -/
def average : List (HloOp τ sig (Elt Ideal)) := (seg2.drop 27).take 15
/-- The operations of the index. -/
def index : List (HloOp τ sig (Elt Ideal)) := (seg2.drop 42).take 6
/-- The operations that pick the code. -/
def choose : List (HloOp τ sig (Elt Ideal)) := (seg2.drop 48).take 23
/-- The operations that update the running arrays. -/
def update : List (HloOp τ sig (Elt Ideal)) := seg2.drop 71

/-- The level is its pieces in order. -/
theorem pieces : seg2 = near ++ (average ++ (index ++ (choose ++ update))) := rfl

variable (V : Valuation τ sig (Elt Ideal))

/-- The codes and the negated table. -/
theorem near_reads :
    after near V (Proc.devRef .tc main_v107) = codes2 (V (Proc.devRef .tc main_arg1))
    ∧ after near V (Proc.devRef .tc main_v127) = negNorm (diff (V (Proc.devRef .tc main_v91)) (codes2 (V (Proc.devRef .tc main_arg1)))) := by
  refine ⟨?_, ?_⟩ <;> after_reads_simp <;> rfl

/-- The weighted average; the codes and the table stay. -/
theorem average_reads :
    after average V (Proc.devRef .tc main_v139) = mix (expo (V (Proc.devRef .tc main_v127))) (V (Proc.devRef .tc main_v107))
    ∧ after average V (Proc.devRef .tc main_v107) = V (Proc.devRef .tc main_v107)
    ∧ after average V (Proc.devRef .tc main_v127) = V (Proc.devRef .tc main_v127) := by
  refine ⟨?_, ?_, ?_⟩ <;> after_reads_simp <;> rfl

/-- The index and its column; the codes and the average stay. -/
theorem index_reads :
    after index V (Proc.devRef .tc main_v140) = first (V (Proc.devRef .tc main_v127))
    ∧ after index V (Proc.devRef .tc main_v141) = column (first (V (Proc.devRef .tc main_v127)))
    ∧ after index V (Proc.devRef .tc main_v107) = V (Proc.devRef .tc main_v107)
    ∧ after index V (Proc.devRef .tc main_v139) = V (Proc.devRef .tc main_v139) := by
  refine ⟨?_, ?_, ?_, ?_⟩ <;> after_reads_simp [TRef.ofBuf_toBuf] <;> rfl

/-- The code picked; the column and the average stay. -/
theorem choose_reads :
    after choose V (Proc.devRef .tc main_v142) = pick (V (Proc.devRef .tc main_v107)) (V (Proc.devRef .tc main_v140))
    ∧ after choose V (Proc.devRef .tc main_v141) = V (Proc.devRef .tc main_v141)
    ∧ after choose V (Proc.devRef .tc main_v139) = V (Proc.devRef .tc main_v139) := by
  refine ⟨?_, ?_, ?_⟩ <;> after_reads_simp [TRef.ofBuf_toBuf] <;> rfl

/-- The running arrays and totals. -/
theorem update_reads :
    after update V (Proc.devRef .tc main_v143) = minus (V (Proc.devRef .tc main_v91)) (V (Proc.devRef .tc main_v142))
    ∧ after update V (Proc.devRef .tc main_v144) = plus (V (Proc.devRef .tc main_v92)) (V (Proc.devRef .tc main_v139))
    ∧ after update V (Proc.devRef .tc main_v145) = plus (V (Proc.devRef .tc main_v93)) (V (Proc.devRef .tc main_v142))
    ∧ after update V (Proc.devRef .tc main_v151) = plus₀ (V (Proc.devRef .tc main_v99))
        (meanSq (V (Proc.devRef .tc main_arg0)) (plus (V (Proc.devRef .tc main_v92)) (V (Proc.devRef .tc main_v139))))
    ∧ after update V (Proc.devRef .tc main_v157) = plus₀ (V (Proc.devRef .tc main_v105))
        (meanSq (V (Proc.devRef .tc main_arg0)) (plus (V (Proc.devRef .tc main_v93)) (V (Proc.devRef .tc main_v142))))
    ∧ after update V (Proc.devRef .tc main_v141) = V (Proc.devRef .tc main_v141) := by
  refine ⟨?_, ?_, ?_, ?_, ?_, ?_⟩ <;> after_reads_simp <;> rfl

/-- What the pieces before the update leave, for the update to read. -/
def before : Valuation τ sig (Elt Ideal) := after choose (after index (after average (after near V)))

/-- The code, the average and the column the update reads. -/
theorem before_new :
    before V (Proc.devRef .tc main_v142) = hard (V (Proc.devRef .tc main_v91)) (codes2 (V (Proc.devRef .tc main_arg1)))
    ∧ before V (Proc.devRef .tc main_v139) = soft (V (Proc.devRef .tc main_v91)) (codes2 (V (Proc.devRef .tc main_arg1)))
    ∧ before V (Proc.devRef .tc main_v141) = column (code (V (Proc.devRef .tc main_v91)) (codes2 (V (Proc.devRef .tc main_arg1)))) := by
  unfold before
  obtain ⟨n1, n2⟩ := near_reads V
  generalize after near V = V1 at n1 n2 ⊢
  obtain ⟨a1, a2, a3⟩ := average_reads V1
  generalize after average V1 = V2 at a1 a2 a3 ⊢
  obtain ⟨i1, i2, i3, i4⟩ := index_reads V2
  generalize after index V2 = V3 at i1 i2 i3 i4 ⊢
  obtain ⟨c1, c2, c3⟩ := choose_reads V3
  generalize after choose V3 = V4 at c1 c2 c3 ⊢
  refine ⟨?_, ?_, ?_⟩
  · rw [c1, i1, i3, a2, a3, n1, n2]; rfl
  · rw [c3, i4, a1, n1, n2]; rfl
  · rw [c2, i2, a3, n2]; rfl

/-- What the update reads from before the level. -/
theorem before_old :
    before V (Proc.devRef .tc main_arg0) = V (Proc.devRef .tc main_arg0)
    ∧ before V (Proc.devRef .tc main_v91) = V (Proc.devRef .tc main_v91)
    ∧ before V (Proc.devRef .tc main_v92) = V (Proc.devRef .tc main_v92)
    ∧ before V (Proc.devRef .tc main_v93) = V (Proc.devRef .tc main_v93)
    ∧ before V (Proc.devRef .tc main_v99) = V (Proc.devRef .tc main_v99)
    ∧ before V (Proc.devRef .tc main_v105) = V (Proc.devRef .tc main_v105) := by
  unfold before
  refine ⟨?_, ?_, ?_, ?_, ?_, ?_⟩ <;> after_reads_simp

/-- What level 2 leaves. -/
theorem reads :
    after seg2 V (Proc.devRef .tc main_v143) = rest (V (Proc.devRef .tc main_v91)) (codes2 (V (Proc.devRef .tc main_arg1)))
    ∧ after seg2 V (Proc.devRef .tc main_v144) = plus (V (Proc.devRef .tc main_v92)) (soft (V (Proc.devRef .tc main_v91)) (codes2 (V (Proc.devRef .tc main_arg1))))
    ∧ after seg2 V (Proc.devRef .tc main_v145) = plus (V (Proc.devRef .tc main_v93)) (hard (V (Proc.devRef .tc main_v91)) (codes2 (V (Proc.devRef .tc main_arg1))))
    ∧ after seg2 V (Proc.devRef .tc main_v151) = plus₀ (V (Proc.devRef .tc main_v99))
        (meanSq (V (Proc.devRef .tc main_arg0)) (plus (V (Proc.devRef .tc main_v92)) (soft (V (Proc.devRef .tc main_v91)) (codes2 (V (Proc.devRef .tc main_arg1))))))
    ∧ after seg2 V (Proc.devRef .tc main_v157) = plus₀ (V (Proc.devRef .tc main_v105))
        (meanSq (V (Proc.devRef .tc main_arg0)) (plus (V (Proc.devRef .tc main_v93)) (hard (V (Proc.devRef .tc main_v91)) (codes2 (V (Proc.devRef .tc main_arg1))))))
    ∧ after seg2 V (Proc.devRef .tc main_v141) = column (code (V (Proc.devRef .tc main_v91)) (codes2 (V (Proc.devRef .tc main_arg1)))) := by
  obtain ⟨b1, b2, b3⟩ := before_new V
  obtain ⟨o0, o1, o2, o3, o4, o5⟩ := before_old V
  rw [pieces, after_append, after_append, after_append, after_append]
  change after update (before V) _ = _ ∧ after update (before V) _ = _ ∧ after update (before V) _ = _
    ∧ after update (before V) _ = _ ∧ after update (before V) _ = _ ∧ after update (before V) _ = _
  generalize before V = B at *
  obtain ⟨u1, u2, u3, u4, u5, u6⟩ := update_reads B
  rw [u1, u2, u3, u4, u5, u6, b1, b2, b3, o0, o1, o2, o3, o4, o5]
  exact ⟨rfl, rfl, rfl, rfl, rfl, rfl⟩

/-- Level 2 leaves the two arguments and the columns before it as they were. -/
theorem keeps :
    after seg2 V (Proc.devRef .tc main_arg0) = V (Proc.devRef .tc main_arg0)
    ∧ after seg2 V (Proc.devRef .tc main_arg1) = V (Proc.devRef .tc main_arg1)
    ∧ after seg2 V (Proc.devRef .tc main_v37) = V (Proc.devRef .tc main_v37)
    ∧ after seg2 V (Proc.devRef .tc main_v89) = V (Proc.devRef .tc main_v89) := by
  refine ⟨?_, ?_, ?_, ?_⟩ <;> after_reads_simp

end L2

end Cert.ReferenceIdeal.Line
-- ==== Proof.Ref.Seg3.lean ====
module

public import proofs.«01_k».proof.Proof.Ref.Ops
public import proofs.«01_k».proof.Proof.Ref.Level

/-! # What level 3 of the reference leaves in its buffers

The level's operations are cut at the negated table, the weighted average, the index and the code it names, so that each
piece reads only what the pieces before it left. -/

@[expose] public section

set_option maxRecDepth 16384
set_option maxHeartbeats 2000000

noncomputable section

namespace Cert.ReferenceIdeal.Line

open Idealize.ShloMosaic Idealize.ShloMosaic.TcCoe Idealize.ShloMosaic.StableHlo Idealize.SL.Sem
open Cert.ReferenceIdeal Cert.ReferenceIdeal.Gen

namespace L3

/-- The operations up to the negated table. -/
def near : List (HloOp τ sig (Elt Ideal)) := seg3.take 27
/-- The operations of the weighted average. -/
def average : List (HloOp τ sig (Elt Ideal)) := (seg3.drop 27).take 15
/-- The operations of the index. -/
def index : List (HloOp τ sig (Elt Ideal)) := (seg3.drop 42).take 6
/-- The operations that pick the code. -/
def choose : List (HloOp τ sig (Elt Ideal)) := (seg3.drop 48).take 23
/-- The operations that update the running arrays. -/
def update : List (HloOp τ sig (Elt Ideal)) := seg3.drop 71

/-- The level is its pieces in order. -/
theorem pieces : seg3 = near ++ (average ++ (index ++ (choose ++ update))) := rfl

variable (V : Valuation τ sig (Elt Ideal))

/-- The codes and the negated table. -/
theorem near_reads :
    after near V (Proc.devRef .tc main_v159) = codes3 (V (Proc.devRef .tc main_arg1))
    ∧ after near V (Proc.devRef .tc main_v179) = negNorm (diff (V (Proc.devRef .tc main_v143)) (codes3 (V (Proc.devRef .tc main_arg1)))) := by
  refine ⟨?_, ?_⟩ <;> after_reads_simp <;> rfl

/-- The weighted average; the codes and the table stay. -/
theorem average_reads :
    after average V (Proc.devRef .tc main_v191) = mix (expo (V (Proc.devRef .tc main_v179))) (V (Proc.devRef .tc main_v159))
    ∧ after average V (Proc.devRef .tc main_v159) = V (Proc.devRef .tc main_v159)
    ∧ after average V (Proc.devRef .tc main_v179) = V (Proc.devRef .tc main_v179) := by
  refine ⟨?_, ?_, ?_⟩ <;> after_reads_simp <;> rfl

/-- The index and its column; the codes and the average stay. -/
theorem index_reads :
    after index V (Proc.devRef .tc main_v192) = first (V (Proc.devRef .tc main_v179))
    ∧ after index V (Proc.devRef .tc main_v193) = column (first (V (Proc.devRef .tc main_v179)))
    ∧ after index V (Proc.devRef .tc main_v159) = V (Proc.devRef .tc main_v159)
    ∧ after index V (Proc.devRef .tc main_v191) = V (Proc.devRef .tc main_v191) := by
  refine ⟨?_, ?_, ?_, ?_⟩ <;> after_reads_simp [TRef.ofBuf_toBuf] <;> rfl

/-- The code picked; the column and the average stay. -/
theorem choose_reads :
    after choose V (Proc.devRef .tc main_v194) = pick (V (Proc.devRef .tc main_v159)) (V (Proc.devRef .tc main_v192))
    ∧ after choose V (Proc.devRef .tc main_v193) = V (Proc.devRef .tc main_v193)
    ∧ after choose V (Proc.devRef .tc main_v191) = V (Proc.devRef .tc main_v191) := by
  refine ⟨?_, ?_, ?_⟩ <;> after_reads_simp [TRef.ofBuf_toBuf] <;> rfl

/-- The running arrays and totals. -/
theorem update_reads :
    after update V (Proc.devRef .tc main_v195) = minus (V (Proc.devRef .tc main_v143)) (V (Proc.devRef .tc main_v194))
    ∧ after update V (Proc.devRef .tc main_v196) = plus (V (Proc.devRef .tc main_v144)) (V (Proc.devRef .tc main_v191))
    ∧ after update V (Proc.devRef .tc main_v197) = plus (V (Proc.devRef .tc main_v145)) (V (Proc.devRef .tc main_v194))
    ∧ after update V (Proc.devRef .tc main_v203) = plus₀ (V (Proc.devRef .tc main_v151))
        (meanSq (V (Proc.devRef .tc main_arg0)) (plus (V (Proc.devRef .tc main_v144)) (V (Proc.devRef .tc main_v191))))
    ∧ after update V (Proc.devRef .tc main_v209) = plus₀ (V (Proc.devRef .tc main_v157))
        (meanSq (V (Proc.devRef .tc main_arg0)) (plus (V (Proc.devRef .tc main_v145)) (V (Proc.devRef .tc main_v194))))
    ∧ after update V (Proc.devRef .tc main_v193) = V (Proc.devRef .tc main_v193) := by
  refine ⟨?_, ?_, ?_, ?_, ?_, ?_⟩ <;> after_reads_simp <;> rfl

/-- What the pieces before the update leave, for the update to read. -/
def before : Valuation τ sig (Elt Ideal) := after choose (after index (after average (after near V)))

/-- The code, the average and the column the update reads. -/
theorem before_new :
    before V (Proc.devRef .tc main_v194) = hard (V (Proc.devRef .tc main_v143)) (codes3 (V (Proc.devRef .tc main_arg1)))
    ∧ before V (Proc.devRef .tc main_v191) = soft (V (Proc.devRef .tc main_v143)) (codes3 (V (Proc.devRef .tc main_arg1)))
    ∧ before V (Proc.devRef .tc main_v193) = column (code (V (Proc.devRef .tc main_v143)) (codes3 (V (Proc.devRef .tc main_arg1)))) := by
  unfold before
  obtain ⟨n1, n2⟩ := near_reads V
  generalize after near V = V1 at n1 n2 ⊢
  obtain ⟨a1, a2, a3⟩ := average_reads V1
  generalize after average V1 = V2 at a1 a2 a3 ⊢
  obtain ⟨i1, i2, i3, i4⟩ := index_reads V2
  generalize after index V2 = V3 at i1 i2 i3 i4 ⊢
  obtain ⟨c1, c2, c3⟩ := choose_reads V3
  generalize after choose V3 = V4 at c1 c2 c3 ⊢
  refine ⟨?_, ?_, ?_⟩
  · rw [c1, i1, i3, a2, a3, n1, n2]; rfl
  · rw [c3, i4, a1, n1, n2]; rfl
  · rw [c2, i2, a3, n2]; rfl

/-- What the update reads from before the level. -/
theorem before_old :
    before V (Proc.devRef .tc main_arg0) = V (Proc.devRef .tc main_arg0)
    ∧ before V (Proc.devRef .tc main_v143) = V (Proc.devRef .tc main_v143)
    ∧ before V (Proc.devRef .tc main_v144) = V (Proc.devRef .tc main_v144)
    ∧ before V (Proc.devRef .tc main_v145) = V (Proc.devRef .tc main_v145)
    ∧ before V (Proc.devRef .tc main_v151) = V (Proc.devRef .tc main_v151)
    ∧ before V (Proc.devRef .tc main_v157) = V (Proc.devRef .tc main_v157) := by
  unfold before
  refine ⟨?_, ?_, ?_, ?_, ?_, ?_⟩ <;> after_reads_simp

/-- What level 3 leaves. -/
theorem reads :
    after seg3 V (Proc.devRef .tc main_v195) = rest (V (Proc.devRef .tc main_v143)) (codes3 (V (Proc.devRef .tc main_arg1)))
    ∧ after seg3 V (Proc.devRef .tc main_v196) = plus (V (Proc.devRef .tc main_v144)) (soft (V (Proc.devRef .tc main_v143)) (codes3 (V (Proc.devRef .tc main_arg1))))
    ∧ after seg3 V (Proc.devRef .tc main_v197) = plus (V (Proc.devRef .tc main_v145)) (hard (V (Proc.devRef .tc main_v143)) (codes3 (V (Proc.devRef .tc main_arg1))))
    ∧ after seg3 V (Proc.devRef .tc main_v203) = plus₀ (V (Proc.devRef .tc main_v151))
        (meanSq (V (Proc.devRef .tc main_arg0)) (plus (V (Proc.devRef .tc main_v144)) (soft (V (Proc.devRef .tc main_v143)) (codes3 (V (Proc.devRef .tc main_arg1))))))
    ∧ after seg3 V (Proc.devRef .tc main_v209) = plus₀ (V (Proc.devRef .tc main_v157))
        (meanSq (V (Proc.devRef .tc main_arg0)) (plus (V (Proc.devRef .tc main_v145)) (hard (V (Proc.devRef .tc main_v143)) (codes3 (V (Proc.devRef .tc main_arg1))))))
    ∧ after seg3 V (Proc.devRef .tc main_v193) = column (code (V (Proc.devRef .tc main_v143)) (codes3 (V (Proc.devRef .tc main_arg1)))) := by
  obtain ⟨b1, b2, b3⟩ := before_new V
  obtain ⟨o0, o1, o2, o3, o4, o5⟩ := before_old V
  rw [pieces, after_append, after_append, after_append, after_append]
  change after update (before V) _ = _ ∧ after update (before V) _ = _ ∧ after update (before V) _ = _
    ∧ after update (before V) _ = _ ∧ after update (before V) _ = _ ∧ after update (before V) _ = _
  generalize before V = B at *
  obtain ⟨u1, u2, u3, u4, u5, u6⟩ := update_reads B
  rw [u1, u2, u3, u4, u5, u6, b1, b2, b3, o0, o1, o2, o3, o4, o5]
  exact ⟨rfl, rfl, rfl, rfl, rfl, rfl⟩

/-- Level 3 leaves the two arguments and the columns before it as they were. -/
theorem keeps :
    after seg3 V (Proc.devRef .tc main_arg0) = V (Proc.devRef .tc main_arg0)
    ∧ after seg3 V (Proc.devRef .tc main_arg1) = V (Proc.devRef .tc main_arg1)
    ∧ after seg3 V (Proc.devRef .tc main_v37) = V (Proc.devRef .tc main_v37)
    ∧ after seg3 V (Proc.devRef .tc main_v89) = V (Proc.devRef .tc main_v89)
    ∧ after seg3 V (Proc.devRef .tc main_v141) = V (Proc.devRef .tc main_v141) := by
  refine ⟨?_, ?_, ?_, ?_, ?_⟩ <;> after_reads_simp

end L3

end Cert.ReferenceIdeal.Line
-- ==== Proof.Ref.Results.lean ====
module

public import proofs.«01_k».proof.Proof.Ref.Seg0
public import proofs.«01_k».proof.Proof.Ref.Seg1
public import proofs.«01_k».proof.Proof.Ref.Seg2
public import proofs.«01_k».proof.Proof.Ref.Seg3

/-! # The reference's results

What the line leaves in the seven result buffers, as functions of the two arguments. -/

@[expose] public section

set_option maxRecDepth 16384
set_option maxHeartbeats 2000000

noncomputable section

namespace Cert.ReferenceIdeal.Line

open Idealize.ShloMosaic Idealize.ShloMosaic.TcCoe Idealize.ShloMosaic.StableHlo Idealize.SL.Sem
open Cert.ReferenceIdeal Cert.ReferenceIdeal.Gen

/-- Four columns side by side. -/
def side (k0 k1 k2 k3 : IVec S8192x1 32) : IVec S8192x4 32 :=
  concatenate S8192x4 1 [⟨S8192x1, k0⟩, ⟨S8192x1, k1⟩, ⟨S8192x1, k2⟩, ⟨S8192x1, k3⟩]
    concatenates_S8192x1_S8192x1_S8192x1_S8192x1_S8192x4_d1

variable (V : Valuation τ sig (Elt Ideal))

/-- What the operations after the last level leave. -/
theorem tail_reads :
    after seg4 V (Proc.devRef .tc main_v214) = meanSq (V (Proc.devRef .tc main_arg0)) (V (Proc.devRef .tc main_v197))
    ∧ after seg4 V (Proc.devRef .tc main_v218) = meanAll (V (Proc.devRef .tc main_v196)) (V (Proc.devRef .tc main_v197))
    ∧ after seg4 V (Proc.devRef .tc main_v219) = side (V (Proc.devRef .tc main_v37)) (V (Proc.devRef .tc main_v89))
        (V (Proc.devRef .tc main_v141)) (V (Proc.devRef .tc main_v193)) := by
  refine ⟨?_, ?_, ?_⟩ <;> after_reads_simp <;> rfl

/-- What they keep. -/
theorem tail_keeps :
    after seg4 V (Proc.devRef .tc main_v197) = V (Proc.devRef .tc main_v197)
    ∧ after seg4 V (Proc.devRef .tc main_v196) = V (Proc.devRef .tc main_v196)
    ∧ after seg4 V (Proc.devRef .tc main_v203) = V (Proc.devRef .tc main_v203)
    ∧ after seg4 V (Proc.devRef .tc main_v209) = V (Proc.devRef .tc main_v209)
    ∧ after seg4 V (Proc.devRef .tc main_arg0) = V (Proc.devRef .tc main_arg0)
    ∧ after seg4 V (Proc.devRef .tc main_arg1) = V (Proc.devRef .tc main_arg1) := by
  refine ⟨?_, ?_, ?_, ?_, ?_, ?_⟩ <;> after_reads_simp

/-- The residual after the first level, of the input `x` and the codebook `b`. -/
def res1 (x : Rows) (b : FVec Ideal S4x1024x256 .f32) : Rows := rest x (codes0 b)
/-- The residual after the second level. -/
def res2 (x : Rows) (b : FVec Ideal S4x1024x256 .f32) : Rows := rest (res1 x b) (codes1 b)
/-- The residual after the third level. -/
def res3 (x : Rows) (b : FVec Ideal S4x1024x256 .f32) : Rows := rest (res2 x b) (codes2 b)

/-- The sum of the weighted averages of the first level, and so on. -/
def qs1 (x : Rows) (b : FVec Ideal S4x1024x256 .f32) : Rows := plus zeros (soft x (codes0 b))
/-- After the second level. -/
def qs2 (x : Rows) (b : FVec Ideal S4x1024x256 .f32) : Rows := plus (qs1 x b) (soft (res1 x b) (codes1 b))
/-- After the third level. -/
def qs3 (x : Rows) (b : FVec Ideal S4x1024x256 .f32) : Rows := plus (qs2 x b) (soft (res2 x b) (codes2 b))
/-- After the last level. -/
def qs4 (x : Rows) (b : FVec Ideal S4x1024x256 .f32) : Rows := plus (qs3 x b) (soft (res3 x b) (codes3 b))

/-- The sum of the codes chosen, after the first level. -/
def qh1 (x : Rows) (b : FVec Ideal S4x1024x256 .f32) : Rows := plus zeros (hard x (codes0 b))
/-- After the second level. -/
def qh2 (x : Rows) (b : FVec Ideal S4x1024x256 .f32) : Rows := plus (qh1 x b) (hard (res1 x b) (codes1 b))
/-- After the third level. -/
def qh3 (x : Rows) (b : FVec Ideal S4x1024x256 .f32) : Rows := plus (qh2 x b) (hard (res2 x b) (codes2 b))
/-- After the last level. -/
def qh4 (x : Rows) (b : FVec Ideal S4x1024x256 .f32) : Rows := plus (qh3 x b) (hard (res3 x b) (codes3 b))

/-- The sum over the levels of the mean squared distance from the input to a running array. -/
def total (x q1 q2 q3 q4 : Rows) : Scalar :=
  plus₀ (plus₀ (plus₀ (plus₀ (constant S_ .f32 0x00000000#32) (meanSq x q1)) (meanSq x q2)) (meanSq x q3)) (meanSq x q4)

/-- The indices of the four levels, side by side. -/
def indices (x : Rows) (b : FVec Ideal S4x1024x256 .f32) : IVec S8192x4 32 :=
  side (column (code x (codes0 b))) (column (code (res1 x b) (codes1 b)))
    (column (code (res2 x b) (codes2 b))) (column (code (res3 x b) (codes3 b)))

/-- What the reference leaves in its result buffers, and that its arguments stay. -/
theorem results (x : Rows) (b : FVec Ideal S4x1024x256 .f32)
    (hx : V (Proc.devRef .tc main_arg0) = x) (hb : V (Proc.devRef .tc main_arg1) = b) :
    after ops V (Proc.devRef .tc main_v197) = qh4 x b
    ∧ after ops V (Proc.devRef .tc main_v196) = qs4 x b
    ∧ after ops V (Proc.devRef .tc main_v203) = total x (qs1 x b) (qs2 x b) (qs3 x b) (qs4 x b)
    ∧ after ops V (Proc.devRef .tc main_v209) = total x (qh1 x b) (qh2 x b) (qh3 x b) (qh4 x b)
    ∧ after ops V (Proc.devRef .tc main_v218) = meanAll (qs4 x b) (qh4 x b)
    ∧ after ops V (Proc.devRef .tc main_v214) = meanSq x (qh4 x b)
    ∧ after ops V (Proc.devRef .tc main_v219) = indices x b
    ∧ after ops V (Proc.devRef .tc main_arg0) = x
    ∧ after ops V (Proc.devRef .tc main_arg1) = b := by
  rw [ops_eq, after_append, after_append, after_append, after_append]
  obtain ⟨a1, a2, a3, a4, a5, a6⟩ := L0.reads V
  obtain ⟨a7, a8⟩ := L0.keeps V
  rw [hx] at a1 a2 a3 a4 a5 a6 a7
  rw [hb] at a1 a2 a3 a4 a5 a6 a8
  generalize after seg0 V = V1 at *
  obtain ⟨b1, b2, b3, b4, b5, b6⟩ := L1.reads V1
  obtain ⟨b7, b8, b9⟩ := L1.keeps V1
  simp only [a1, a2, a3, a4, a5, a6, a7, a8] at b1 b2 b3 b4 b5 b6 b7 b8 b9
  generalize after seg1 V1 = V2 at *
  obtain ⟨c1, c2, c3, c4, c5, c6⟩ := L2.reads V2
  obtain ⟨c7, c8, c9, c10⟩ := L2.keeps V2
  simp only [b1, b2, b3, b4, b5, b6, b7, b8, b9] at c1 c2 c3 c4 c5 c6 c7 c8 c9 c10
  generalize after seg2 V2 = V3 at *
  obtain ⟨d1, d2, d3, d4, d5, d6⟩ := L3.reads V3
  obtain ⟨d7, d8, d9, d10, d11⟩ := L3.keeps V3
  simp only [c1, c2, c3, c4, c5, c6, c7, c8, c9, c10] at d1 d2 d3 d4 d5 d6 d7 d8 d9 d10 d11
  generalize after seg3 V3 = V4 at *
  obtain ⟨e1, e2, e3⟩ := tail_reads V4
  obtain ⟨f1, f2, f3, f4, f5, f6⟩ := tail_keeps V4
  refine ⟨f1.trans d3, f2.trans d2, f3.trans d4, f4.trans d5, e2.trans ?_, e1.trans ?_, e3.trans ?_, f5.trans d7, f6.trans d8⟩
  · rw [d2, d3]; rfl
  · rw [d7, d3]; rfl
  · rw [d9, d10, d11, d6]; rfl

end Cert.ReferenceIdeal.Line
-- ==== Proof.Frames.lean ====
module

public import proofs.«01_k».proof.Defs
public import proofs.«01_k».proof.Proof.Gen.Kernel.Frame
public import proofs.«01_k».proof.Proof.Gen.KernelIdeal.Frame
public import proofs.«01_k».proof.Proof.Ref.Run
public import proofs.«01_k».proof.Proof.Ref.Results

/-! # The frames

Each program runs, leaves its two arguments as they were and ends with every semaphore at zero. -/

@[expose] public section

set_option maxRecDepth 16384

noncomputable section

namespace Cert.Proof

open Idealize.ShloMosaic Idealize.SL.Sem

/-- The kernel's frame. -/
theorem frame_kernel : @Cert.quiescent_Kernel Cert.Kernel.Gen.facts := fun m ρ _ => Cert.Kernel.Gen.frame m ρ

/-- The idealized kernel's frame. -/
theorem frame_ideal : @Cert.quiescent_KernelIdeal Cert.KernelIdeal.Gen.facts := fun m ρ _ => Cert.KernelIdeal.Gen.frame m ρ

/-- The reference's frame: its operations write neither argument, and it declares no semaphore. -/
theorem frame_reference : @Cert.quiescent_ReferenceIdeal Cert.ReferenceIdeal.Gen.facts := by
  intro m ρ _
  refine θ_run_mono (Cert.ReferenceIdeal.Line.run_main m ρ) fun r h => ⟨fun c => ?_, sem_eq_zero_of_no_sems (by decide) r.2⟩
  obtain ⟨-, -, -, -, -, -, -, h0, h1⟩ :=
    Cert.ReferenceIdeal.Line.results (StableHlo.launchContents m c) _ _ rfl rfl
  exact ⟨(h c Cert.ReferenceIdeal.main_arg0).trans h0, (h c Cert.ReferenceIdeal.main_arg1).trans h1⟩

end Cert.Proof
-- ==== Proof.Spec.lean ====
module
public import Idealize.ShloMosaic.Lib.Pointwise

/-! The quantiser over the reals: one level maps a row and a book of codes to the soft combination of the codes,
    the number of the nearest code, and what is left of the row. Also the extended-real facts that bring sums,
    maxima, minima, quotients and exponentials of real numbers back to real numbers. -/

@[expose] public section
set_option maxRecDepth 16384

noncomputable section

namespace Cert.Quant
open Idealize.ShloMosaic

/-- One row of numbers. -/
abbrev Row := Fin 256 → ℝ
/-- One book of codes. -/
abbrev Book := Fin 1024 → Fin 256 → ℝ

/-- Not all codes of the book are the same. -/
def Spread (C : Book) : Prop := ∃ k j, C k j ≠ C 0 j

/-- Half the squared length of every code. -/
def halfSq (C : Book) (k : Fin 1024) : ℝ := 1 / 2 * ∑ j, C k j * C k j

/-- The squared distance of a row to every code, multiplied out. -/
def dist (C : Book) (r : Row) (k : Fin 1024) : ℝ :=
  ∑ j, r j * r j + ∑ j, C k j * C k j - 2 * ∑ j, r j * C k j

/-- The largest of finitely many numbers. -/
def most (f : Fin 1024 → ℝ) : ℝ := Finset.univ.sup' ⟨0, Finset.mem_univ _⟩ f
/-- The smallest of finitely many numbers. -/
def least (f : Fin 1024 → ℝ) : ℝ := Finset.univ.inf' ⟨0, Finset.mem_univ _⟩ f

/-- The squared distances as fractions of the largest. -/
def rel (C : Book) (r : Row) (k : Fin 1024) : ℝ := dist C r k / most (dist C r)
/-- The weight of a code before normalising. -/
def weight (C : Book) (r : Row) (k : Fin 1024) : ℝ := Real.exp (least (rel C r) - rel C r k)
/-- The weighted mean of the codes. -/
def soft (C : Book) (r : Row) : Row := fun j => (∑ k, weight C r k * C k j) / ∑ k, weight C r k
/-- A smallest value is taken somewhere. -/
theorem exists_least (f : Fin 1024 → ℝ) : (Finset.univ.filter fun k => f k = least f).Nonempty := by
  obtain ⟨k, _, hk⟩ := Finset.exists_mem_eq_inf' (s := Finset.univ) ⟨0, Finset.mem_univ _⟩ f
  exact ⟨k, Finset.mem_filter.2 ⟨Finset.mem_univ _, hk.symm⟩⟩
/-- The first place where the smallest value is taken. -/
def firstLeast (f : Fin 1024 → ℝ) : Fin 1024 := (Finset.univ.filter fun k => f k = least f).min' (exists_least f)
/-- The number of the nearest code, the first one on ties. -/
def best (C : Book) (r : Row) : Fin 1024 := firstLeast (rel C r)
/-- The row less its nearest code. -/
def rest (C : Book) (r : Row) : Row := fun j => r j - C (best C r) j

/-- The least entry is at most every entry. -/
theorem least_le (f : Fin 1024 → ℝ) (k : Fin 1024) : least f ≤ f k := Finset.inf'_le f (Finset.mem_univ k)
/-- Every entry is at most the largest. -/
theorem le_most (f : Fin 1024 → ℝ) (k : Fin 1024) : f k ≤ most f := Finset.le_sup' f (Finset.mem_univ k)

/-- The least entry stands at its first position. -/
theorem firstLeast_eq (f : Fin 1024 → ℝ) : f (firstLeast f) = least f :=
  (Finset.mem_filter.1 (Finset.min'_mem _ (exists_least f))).2
/-- The first position of the least entry is at most every such position. -/
theorem firstLeast_le (f : Fin 1024 → ℝ) (k : Fin 1024) (h : f k = least f) : firstLeast f ≤ k :=
  Finset.min'_le _ _ ((Finset.mem_filter (p := fun k => f k = least f)).2 ⟨Finset.mem_univ _, h⟩)
/-- The first smallest place is the only one with these two properties. -/
theorem eq_firstLeast (f : Fin 1024 → ℝ) (a : Fin 1024) (h : ∀ k, f a ≤ f k) (h' : ∀ k, k < a → f k ≠ f a) :
    a = firstLeast f := by
  have ha : f a = least f := le_antisymm (Finset.le_inf' _ _ fun k _ => h k) (least_le f a)
  exact le_antisymm (not_lt.1 fun hlt => h' _ hlt ((firstLeast_eq f).trans ha.symm)) (firstLeast_le f a ha)

/-- The squared distance is a sum of squares. -/
theorem dist_eq (C : Book) (r : Row) (k : Fin 1024) : dist C r k = ∑ j, (r j - C k j) ^ 2 := by
  unfold dist
  rw [Finset.mul_sum, ← Finset.sum_add_distrib, ← Finset.sum_sub_distrib]
  exact Finset.sum_congr rfl fun j _ => by ring

/-- Some code is away from the row when the codes differ. -/
theorem most_pos (C : Book) (r : Row) (h : Spread C) : 0 < most (dist C r) := by
  obtain ⟨k, j, hkj⟩ := h
  have key : 0 < dist C r k ∨ 0 < dist C r 0 := by
    by_cases h0 : r j = C 0 j
    · left
      rw [dist_eq]
      refine lt_of_lt_of_le ?_ (Finset.single_le_sum (fun i _ => sq_nonneg _) (Finset.mem_univ j))
      exact pow_pos_of_ne (fun e => hkj (by linarith [sub_eq_zero.1 e]))
    · right
      rw [dist_eq]
      refine lt_of_lt_of_le ?_ (Finset.single_le_sum (fun i _ => sq_nonneg _) (Finset.mem_univ j))
      exact pow_pos_of_ne (sub_ne_zero.2 h0)
  rcases key with h | h
  · exact h.trans_le (le_most _ k)
  · exact h.trans_le (le_most _ 0)
where
  pow_pos_of_ne {a : ℝ} (h : a ≠ 0) : 0 < a ^ 2 := by positivity

/-- The weights' sum is positive. -/
theorem weight_sum_pos (C : Book) (r : Row) : 0 < ∑ k, weight C r k :=
  Finset.sum_pos (fun _ _ => Real.exp_pos _) ⟨0, Finset.mem_univ _⟩

/-! ### Real numbers among the extended ones -/

/-- A sum of real numbers is a real number. -/
theorem sum_coe {ι : Type*} (s : Finset ι) (f : ι → ℝ) : ∑ i ∈ s, ((f i : ℝ) : EReal) = ((∑ i ∈ s, f i : ℝ) : EReal) := by
  classical
  induction s using Finset.induction_on with
  | empty => simp
  | insert a s h ih => rw [Finset.sum_insert h, Finset.sum_insert h, ih, EReal.coe_add]

/-- The fold of the maximum from the bottom is the largest number. -/
theorem fold_max_coe (f : Fin 1024 → ℝ) :
    Finset.univ.fold max (⊥ : EReal) (fun k => ((f k : ℝ) : EReal)) = ((most f : ℝ) : EReal) := by
  refine le_antisymm ((Finset.fold_max_le _).2 ⟨bot_le, fun k _ => EReal.coe_le_coe_iff.2 (le_most f k)⟩) ?_
  obtain ⟨k, hk, e⟩ := Finset.exists_mem_eq_sup' (s := Finset.univ) ⟨0, Finset.mem_univ _⟩ f
  exact (Finset.le_fold_max _).2 (.inr ⟨k, hk, EReal.coe_le_coe_iff.2 e.le⟩)

/-- The fold of the minimum from the top is the smallest number. -/
theorem fold_min_coe (f : Fin 1024 → ℝ) :
    Finset.univ.fold min (⊤ : EReal) (fun k => ((f k : ℝ) : EReal)) = ((least f : ℝ) : EReal) := by
  refine le_antisymm ?_ ((Finset.le_fold_min _).2 ⟨le_top, fun k _ => EReal.coe_le_coe_iff.2 (least_le f k)⟩)
  obtain ⟨k, hk, e⟩ := Finset.exists_mem_eq_inf' (s := Finset.univ) ⟨0, Finset.mem_univ _⟩ f
  exact (Finset.fold_min_le _).2 (.inr ⟨k, hk, EReal.coe_le_coe_iff.2 e.ge⟩)

/-- A quotient of real numbers by a number other than zero is real. -/
theorem div_coe {b : ℝ} (h : b ≠ 0) (a : ℝ) : Ideal.div (a : EReal) (b : EReal) = ((a / b : ℝ) : EReal) := by
  rw [Ideal.div_coe h, ← EReal.coe_mul, mul_one_div]

/-- The exponential of a real number is real. -/
theorem exp_coe (a : ℝ) : Ideal.exp (a : EReal) = ((Real.exp a : ℝ) : EReal) := rfl

/-- The bits of negative infinity. -/
theorem bits_bot : Ideal.ofBits .f32 0xFF800000#32 = ⊥ := by
  simp [Ideal.ofBits, Ideal.ieee]
/-- The bits of positive infinity. -/
theorem bits_top : Ideal.ofBits .f32 0x7F800000#32 = ⊤ := by
  simp [Ideal.ofBits, Ideal.ieee]
/-- The bits of one half. -/
theorem bits_half : Ideal.ofBits .f32 0x3F000000#32 = ((1 / 2 : ℝ) : EReal) := by
  simp [Ideal.ofBits, Ideal.ieee, -EReal.coe_mul]; norm_num
/-- The bits of two. -/
theorem bits_two : Ideal.ofBits .f32 0x40000000#32 = ((2 : ℝ) : EReal) := by
  simp [Ideal.ofBits, Ideal.ieee, -EReal.coe_mul]; norm_num
/-- The bits of minus one. -/
theorem bits_neg_one : Ideal.ofBits .f32 0xBF800000#32 = ((-1 : ℝ) : EReal) := by
  simp [Ideal.ofBits, Ideal.ieee, -EReal.coe_mul, -EReal.coe_neg]; norm_num
/-- The bits of the number of rows. -/
theorem bits_rows : Ideal.ofBits .f32 0x46000000#32 = ((8192 : ℝ) : EReal) := by
  simp [Ideal.ofBits, Ideal.ieee, -EReal.coe_mul]; norm_num
/-- The bits of the number of entries. -/
theorem bits_all : Ideal.ofBits .f32 0x4A000000#32 = ((2097152 : ℝ) : EReal) := by
  simp [Ideal.ofBits, Ideal.ieee, -EReal.coe_mul]; norm_num

end Cert.Quant
-- ==== Proof.Lift.lean ====
module
public import proofs.«01_k».proof.Proof.Spec

/-! # Arrays of real numbers among the arrays of extended ones -/

@[expose] public section
set_option maxRecDepth 16384

noncomputable section

namespace Cert.Quant
open Idealize.ShloMosaic

/-- A table of real numbers as an array. -/
def up2 {a b : Nat} {φ : FTy} (f : Fin a → Fin b → ℝ) : FVec Ideal ⟨2, ![a, b]⟩ φ :=
  fun j => ((f (j 0) (j 1) : ℝ) : EReal)

/-- A stack of tables of real numbers as an array. -/
def up3 {a b c : Nat} {φ : FTy} (f : Fin a → Fin b → Fin c → ℝ) : FVec Ideal ⟨3, ![a, b, c]⟩ φ :=
  fun j => ((f (j 0) (j 1) (j 2) : ℝ) : EReal)

/-- An entry of a real array of three axes. -/
theorem up3_apply {a b c : Nat} {φ : FTy} (f : Fin a → Fin b → Fin c → ℝ) (i : Fin a) (j : Fin b) (k : Fin c) :
    up3 (φ := φ) f (ix3 i j k) = ((f i j k : ℝ) : EReal) := rfl

/-- A list of real numbers as an array. -/
def up1 {a : Nat} {φ : FTy} (f : Fin a → ℝ) : FVec Ideal ⟨1, ![a]⟩ φ := fun j => ((f (j 0) : ℝ) : EReal)

/-- An entry of a real list. -/
theorem up1_apply {a : Nat} {φ : FTy} (f : Fin a → ℝ) (i : Fin a) : up1 (φ := φ) f (ix1 i) = ((f i : ℝ) : EReal) := rfl

/-- A table with every entry negated. -/
def negT {a b : Nat} (f : Fin a → Fin b → ℝ) (i : Fin a) (k : Fin b) : ℝ := -f i k

/-- A list of numbers below 1024 as an array of words. -/
def words {a : Nat} (k : Fin a → Fin 1024) : IVec ⟨1, ![a]⟩ 32 := fun j => BitVec.ofNat 32 (k (j 0)).val

/-- The same list as a column. -/
def wordsCol {a : Nat} (k : Fin a → Fin 1024) : IVec ⟨2, ![a, 1]⟩ 32 := fun j => BitVec.ofNat 32 (k (j 0)).val

/-- An entry of a real table. -/
theorem up2_apply {a b : Nat} {φ : FTy} (f : Fin a → Fin b → ℝ) (i : Fin a) (j : Fin b) :
    up2 (φ := φ) f (ix2 i j) = ((f i j : ℝ) : EReal) := rfl
/-- An entry of a list of numbers. -/
theorem words_apply {a : Nat} (k : Fin a → Fin 1024) (i : Fin a) : words k (ix1 i) = BitVec.ofNat 32 (k i).val := rfl
/-- An entry of a column of numbers. -/
theorem wordsCol_apply {a : Nat} (k : Fin a → Fin 1024) (i : Fin a) (j : Fin 1) :
    wordsCol k (ix2 i j) = BitVec.ofNat 32 (k i).val := rfl

/-- Two arrays over two axes are equal when they agree at every pair of coordinates. -/
theorem ext2 {a b : Nat} {α : Type*} {u v : Shape.Idx ⟨2, ![a, b]⟩ → α} (h : ∀ i j, u (ix2 i j) = v (ix2 i j)) : u = v := by
  funext k
  rw [eq_ix2 k]
  exact h _ _
/-- Two arrays over three axes are equal when they agree at every triple of coordinates. -/
theorem ext3 {a b c : Nat} {α : Type*} {u v : Shape.Idx ⟨3, ![a, b, c]⟩ → α} (h : ∀ i j k, u (ix3 i j k) = v (ix3 i j k)) : u = v := by
  funext l
  rw [eq_ix3 l]
  exact h _ _ _
/-- Two arrays over one axis are equal when they agree at every coordinate. -/
theorem ext1 {a : Nat} {α : Type*} {u v : Shape.Idx ⟨1, ![a]⟩ → α} (h : ∀ i, u (ix1 i) = v (ix1 i)) : u = v := by
  funext k
  rw [eq_ix1 k]
  exact h _

/-- One number as an array without axes. -/
def sc {φ : FTy} (a : ℝ) : FVec Ideal ⟨0, ![]⟩ φ := fun _ => ((a : ℝ) : EReal)

/-- The sum of the squares of a table. -/
def sq {n : Nat} (V : Fin n → Row) : ℝ := ∑ i, ∑ j, V i j * V i j

/-! ### The four levels of one row -/

variable (C : Fin 4 → Book) (x : Row)

/-- What is left after the first level. -/
def r1 : Row := rest (C 0) x
/-- What is left after the second level. -/
def r2 : Row := rest (C 1) (r1 C x)
/-- What is left after the third level. -/
def r3 : Row := rest (C 2) (r2 C x)
/-- What is left after the last level. -/
def r4 : Row := rest (C 3) (r3 C x)
/-- The sum of the soft combinations up to the first level. -/
def s1 : Row := soft (C 0) x
/-- Up to the second level. -/
def s2 : Row := fun j => s1 C x j + soft (C 1) (r1 C x) j
/-- Up to the third level. -/
def s3 : Row := fun j => s2 C x j + soft (C 2) (r2 C x) j
/-- Up to the last level. -/
def s4 : Row := fun j => s3 C x j + soft (C 3) (r3 C x) j

variable {n : Nat} (X : Fin n → Row)

/-- The squared soft errors of all levels. -/
def softErr : ℝ :=
  sq (fun i j => X i j - s1 C (X i) j) + sq (fun i j => X i j - s2 C (X i) j) + sq (fun i j => X i j - s3 C (X i) j) +
    sq (fun i j => X i j - s4 C (X i) j)
/-- The squared hard errors of all levels. -/
def hardErr : ℝ := sq (fun i => r1 C (X i)) + sq (fun i => r2 C (X i)) + sq (fun i => r3 C (X i)) + sq (fun i => r4 C (X i))
/-- The squared hard errors of the last level. -/
def lastErr : ℝ := sq (fun i => r4 C (X i))
/-- The squared differences of the soft from the hard combinations. -/
def jointErr : ℝ := sq (fun i j => s4 C (X i) j - (X i j - r4 C (X i) j))

end Cert.Quant
-- ==== Proof.Pre.lean ====
module

public import proofs.«01_k».proof.Defs
public import proofs.«01_k».proof.Proof.Lift
public import Idealize.ShloMosaic.Lib.Pointwise
public import Idealize.ShloMosaic.Lib.Routing.OpsOrder

/-! # The precondition

Where the precondition holds, the two arguments are tables of real numbers, and in each codebook some code differs from the
first. -/

@[expose] public section

set_option maxRecDepth 16384

noncomputable section

namespace Cert.Pre_finite_and_spread

open Idealize.ShloMosaic Cert.Quant

/-- The shape relations the precondition's operations take. -/
instance facts : Facts := by
  constructor <;> decide

/-- The bits of positive infinity. -/
theorem bits_top : Ideal.ofBits .f32 0x7F800000#32 = (⊤ : EReal) := by
  simp [Ideal.ofBits, Ideal.ieee]

/-- A proposition whose bit is set holds. -/
theorem of_bit {p : Prop} [Decidable p] (h : BitVec.ofBool (decide p) = 1#1) : p := by
  by_contra hn
  rw [decide_eq_false hn] at h
  exact absurd h (by decide)

/-- An extended real whose absolute value is below infinity is a real number. -/
theorem real_of_lt (x : EReal) (h : BitVec.ofBool (decide (FloatOps.absf (F := Ideal) (φ := .f32) x < Ideal.ofBits .f32 0x7F800000#32)) = 1#1) :
    x = ((x.toReal : ℝ) : EReal) := by
  rw [bits_top] at h
  have h' : max x (-x) < ⊤ := of_bit h
  refine (EReal.coe_toReal ?_ ?_).symm
  · rintro rfl
    exact absurd h' (by simp)
  · rintro rfl
    exact absurd h' (by simp)

variable (x : FVec Ideal S8192x256 .f32) (b : FVec Ideal S4x1024x256 .f32)

/-- The rows are real. -/
theorem rows_real (h : (fn (F := Ideal) x b).1 = fun _ => 1#1) : x = up2 (φ := .f32) (fun i j => (x (ix2 i j)).toReal) := by
  refine ext2 fun i j => ?_
  have e := congrFun h (ix2 i j)
  revert e
  pointwise [fn]
  exact real_of_lt _

/-- The codes are real. -/
theorem codes_real (h : (fn (F := Ideal) x b).2.1 = fun _ => 1#1) : b = up3 (φ := .f32) (fun l k j => (b (ix3 l k j)).toReal) := by
  refine ext3 fun l k j => ?_
  have e := congrFun h (ix3 l k j)
  revert e
  pointwise [fn]
  exact real_of_lt _

/-- In each codebook some code differs from the first. -/
theorem codes_spread (C : Fin 4 → Book) (h : (fn (F := Ideal) x (up3 C)).2.2 = fun _ => 1#1) (l : Fin 4) : Spread (C l) := by
  have e := congrFun h (ix1 l)
  revert e
  pointwise [fn]
  rw [Idealize.ShloMosaic.Routing.fold_ori]
  rintro ⟨⟨k, j⟩, -, e⟩
  exact ⟨k, j, fun e' => of_bit e (congrArg (fun r : ℝ => (r : EReal)) e')⟩

end Cert.Pre_finite_and_spread
-- ==== Proof.Kern.Ops.lean ====
module

public import proofs.«01_k».proof.Proof.Gen.KernelIdeal.Skeleton
public import Idealize.ShloMosaic.Lib.Pointwise

/-! # One level of the kernel, as vector functions

The body runs the same level four times over two halves of a block. These functions are that level over one half's
residual; the lemmas say that what the body computes at each level and half is these functions. -/

@[expose] public section

set_option maxRecDepth 16384

noncomputable section

namespace Cert.KernelIdeal.Half

open Idealize.ShloMosaic
open Cert.KernelIdeal Cert.KernelIdeal.Gen

/-- Half of a block of residuals. -/
abbrev Rows := FVec Ideal S512x256 .f32
/-- The codes of one level. -/
abbrev Codes := FVec Ideal S1024x256 .f32
/-- The codes of one level as they lie in memory. -/
abbrev Codes1 := Vec Ideal S1x1024x256 .f32
/-- One part of the codes in the short format, as it lies in memory. -/
abbrev Part1 := Vec Ideal S1x1024x256 .bf16
/-- One part of the codes in the short format. -/
abbrev Part := FVec Ideal S1024x256 .bf16
/-- One number per residual and code. -/
abbrev Table := FVec Ideal S512x1024 .f32
/-- One number per residual. -/
abbrev Col := FVec Ideal S512x1 .f32
/-- One number per code. -/
abbrev Line := FVec Ideal S1x1024 .f32
/-- The code numbers along each row. -/
abbrev Numbers := IVec S512x1024 32

/-- The codes without the leading axis of length one. -/
def flat (v : Codes1) : Codes := shapeCast S1024x256 v shapeCasts_S1x1024x256_S1024x256
/-- A part without the leading axis of length one. -/
def flatPart (v : Part1) : Part := shapeCast S1024x256 v shapeCasts_S1x1024x256_S1024x256
/-- A line cast away from and back to two axes. -/
def line (v : Line) : Line :=
  shapeCast S1x1024 (shapeCast S1024 v shapeCasts_S1x1024_S1024) shapeCasts_S1024_S1x1024
/-- Half the squared length of each residual. -/
def halfLen (r : Rows) : Col :=
  mulf (broadcast S512x1 (Scalar.ofBits .f32 0x3F000000#32))
    (shapeCast S512x1 (multiReduction .add [1] S512 (mulf r r) 0x00000000#32 reduces_S512x256_S512 (.inl rfl) rfl)
      shapeCasts_S512_S512x1)
/-- The products of the residuals with the codes. -/
def prods (r : Rows) (c : Codes) : Table :=
  matmul dot_S512x256_S1024x256_S512x1024_1_1_0_0_n_n none r c (constant S512x1024 .f32 0x00000000#32)
/-- Half the squared distances, from their three terms. -/
def near' (a : Col) (p : Table) (b : Line) : Table :=
  subf (addf (broadcastTo S512x1024 a broadcasts_S512x1_S512x1024) (broadcastTo S512x1024 b broadcasts_S1x1024_S512x1024)) p
/-- A table divided by each row's largest entry. -/
def scale (t : Table) : Table :=
  divf t (broadcastTo S512x1024
    (shapeCast S512x1 (multiReduction .maximumf [1] S512 t 0xFF800000#32 reduces_S512x1024_S512 (.inl rfl) rfl)
      shapeCasts_S512_S512x1) broadcasts_S512x1_S512x1024)
/-- Each row's smallest entry. -/
def low (q : Table) : Col :=
  shapeCast S512x1 (multiReduction .minimumf [1] S512 q 0x7F800000#32 reduces_S512x1024_S512 (.inl rfl) rfl)
    shapeCasts_S512_S512x1
/-- The exponentials of the smallest entries less the table. -/
def weigh (q : Table) : Table := exp (subf (broadcastTo S512x1024 (low q) broadcasts_S512x1_S512x1024) q)
/-- The average of the codes with the table's entries as weights. -/
def avg (e : Table) (c : Codes) : Rows :=
  mulf (matmul dot_S512x1024_S1024x256_S512x256_1_0_0_1_n_n none e c (constant S512x256 .f32 0x00000000#32))
    (broadcastTo S512x256
      (divf (broadcast S512x1 (Scalar.ofBits .f32 0x3F800000#32))
        (shapeCast S512x1 (multiReduction .add [1] S512 e 0x00000000#32 reduces_S512x1024_S512 (.inl rfl) rfl)
          shapeCasts_S512_S512x1)) broadcasts_S512x1_S512x256)
/-- The first number at each row's smallest entry. -/
def num (J : Numbers) (q : Table) : IVec S512 32 :=
  multiReductionI .minsi [1] S512
    (select (cmpf .oeq q (broadcastTo S512x1024 (low q) broadcasts_S512x1_S512x1024)) J (broadcast S512x1024 1024#32))
    2147483647#32 reduces_S512x1024_S512 rfl
/-- Numbers as a column. -/
def column (k : IVec S512 32) : IVec S512x1 32 := shapeCast S512x1 k shapeCasts_S512_S512x1
/-- The table that is one at each row's number and zero elsewhere. -/
def hot (J : Numbers) (k : IVec S512 32) : FVec Ideal S512x1024 .bf16 :=
  truncf .bf16 (sitofp .f32 (extui 32
    (cmpi .eq J (broadcastTo S512x1024 (column k) broadcasts_S512x1_S512x1024)) natLt_1_32)) bitsLt_bf16_f32
/-- The product of a table with a part of the codes. -/
def part (o : FVec Ideal S512x1024 .bf16) (h : Part) : Rows :=
  matmul dot_S512x1024_S1024x256_S512x256_1_0_0_1_n_n none o h (constant S512x256 .f32 0x00000000#32)
/-- The residuals less the codes with the given numbers, put together from three parts. -/
def left (J : Numbers) (r : Rows) (k : IVec S512 32) (h1 h2 h3 : Part) : Rows :=
  subf r (addf (addf (part (hot J k) h1) (part (hot J k) h2)) (part (hot J k) h3))
/-- The sum of the squares. -/
def total (v : Rows) : Ideal .f32 :=
  extractAt ![0, 0, 0]
    (shapeCast S1x1x1
      (multiReduction .add [1, 2] S1 (shapeCast S1x512x256 (mulf v v) shapeCasts_S512x256_S1x512x256) 0x00000000#32
        reduces_S1x512x256_S1 (.inl rfl) rfl) shapeCasts_S1_S1x1x1) inpos_S1x1x1_p0_0_0
/-- A sum of two numbers. -/
def plus (a b : Ideal .f32) : Ideal .f32 := Scalar.addf a b
/-- Zero. -/
def zero : Ideal .f32 := Scalar.ofBits .f32 0x00000000#32
/-- The zero array. -/
def zeros : Rows := constant S512x256 .f32 0x00000000#32

/-- Half the squared distances. -/
def near (r : Rows) (c : Codes) (b : Line) : Table := near' (halfLen r) (prods r c) b
/-- The soft combination of one level. -/
def soft (r : Rows) (c : Codes) (b : Line) : Rows := avg (weigh (scale (near r c b))) c
/-- The nearest code's number. -/
def code (J : Numbers) (r : Rows) (c : Codes) (b : Line) : IVec S512 32 := num J (scale (near r c b))
/-- What one level leaves. -/
def rest (J : Numbers) (r : Rows) (c : Codes) (b : Line) (h1 h2 h3 : Part) : Rows := left J r (code J r c b) h1 h2 h3

variable (J : Numbers) (r z y : Rows) (c : Codes) (b : Line) (v : Codes1) (w : Line) (h1 h2 h3 : Part1) (s t u : Ideal .f32)

/-! ### What the body loads -/

/-- The first level's codes without their leading axis. -/
theorem flat_0 : k0_pay42 (F := Ideal) v = flat v := rfl
/-- The second level's codes without their leading axis. -/
theorem flat_1 : k0_pay66 (F := Ideal) v = flat v := rfl
/-- The third level's codes without their leading axis. -/
theorem flat_2 : k0_pay87 (F := Ideal) v = flat v := rfl
/-- The fourth level's codes without their leading axis. -/
theorem flat_3 : k0_pay110 (F := Ideal) v = flat v := rfl
/-- The first level's line of half squared lengths. -/
theorem line_0 : k0_pay43 (F := Ideal) w = line w := rfl
/-- The second level's line of half squared lengths. -/
theorem line_1 : k0_pay67 (F := Ideal) w = line w := rfl
/-- The third level's line of half squared lengths. -/
theorem line_2 : k0_pay88 (F := Ideal) w = line w := rfl
/-- The fourth level's line of half squared lengths. -/
theorem line_3 : k0_pay111 (F := Ideal) w = line w := rfl
/-- The first half's soft combination starts at zero. -/
theorem zeros_0 : k0_pay40 (F := Ideal) = zeros := rfl
/-- The second half's soft combination starts at zero. -/
theorem zeros_1 : k0_pay41 (F := Ideal) = zeros := rfl

/-! ### What a level leaves, for every level and half -/

/-- What the first level leaves of the first half. -/
theorem rest_0a : k0_pay50 J r (k0_pay44 r v w) (k0_pay45 r v w) h1 h2 h3 =
    rest J r (flat v) (line w) (flatPart h1) (flatPart h2) (flatPart h3) := rfl
/-- What the first level leaves of the second half. -/
theorem rest_0b : k0_pay61 r (k0_pay59 J r c b) (k0_pay60 J r c b h1) h2 h3 =
    rest J r c b (flatPart h1) (flatPart h2) (flatPart h3) := rfl
/-- What the second level leaves of the first half. -/
theorem rest_1a : k0_pay72 J r (k0_pay68 r v w) h1 h2 h3 =
    rest J r (flat v) (line w) (flatPart h1) (flatPart h2) (flatPart h3) := rfl
/-- What the second level leaves of the second half. -/
theorem rest_1b : k0_pay82 J r (k0_pay81 J r c b) h1 h2 h3 =
    rest J r c b (flatPart h1) (flatPart h2) (flatPart h3) := rfl
/-- What the third level leaves of the first half. -/
theorem rest_2a : k0_pay95 r (k0_pay93 J r c w) (k0_pay94 J r c w h1) h2 h3 =
    rest J r c (line w) (flatPart h1) (flatPart h2) (flatPart h3) := rfl
/-- What the third level leaves of the second half. -/
theorem rest_2b : k0_pay104 J r (k0_pay100 r c b) (k0_pay101 r c b) h1 h2 h3 =
    rest J r c b (flatPart h1) (flatPart h2) (flatPart h3) := rfl
/-- What the fourth level leaves of the first half. -/
theorem rest_3a : k0_pay117 J r (k0_pay116 J r v w) h1 h2 h3 =
    rest J r (flat v) (line w) (flatPart h1) (flatPart h2) (flatPart h3) := rfl

/-! ### The nearest codes' numbers, for every level and half -/

/-- The first half's numbers at the first level. -/
theorem code_0a : k0_pay54 J (k0_pay44 r v w) (k0_pay45 r v w) = column (code J r (flat v) (line w)) := rfl
/-- The second half's numbers at the first level. -/
theorem code_0b : k0_pay64 (k0_pay58 J r c b) = column (code J r c b) := rfl
/-- The first half's numbers at the second level. -/
theorem code_1a : k0_pay77 (k0_pay71 J (k0_pay68 r v w)) = column (code J r (flat v) (line w)) := rfl
/-- The second half's numbers at the second level. -/
theorem code_1b : k0_pay85 (k0_pay81 J r c b) = column (code J r c b) := rfl
/-- The first half's numbers at the third level. -/
theorem code_2a : k0_pay99 (k0_pay92 J r c w) = column (code J r c (line w)) := rfl
/-- The second half's numbers at the third level. -/
theorem code_2b : k0_pay108 (k0_pay103 J (k0_pay100 r c b) (k0_pay101 r c b)) = column (code J r c b) := rfl
/-- The first half's numbers at the fourth level. -/
theorem code_3a : k0_pay121 (k0_pay115 J r v w) = column (code J r (flat v) (line w)) := rfl
/-- The second half's numbers at the fourth level. -/
theorem code_3b : k0_pay135 (k0_pay127 J b (k0_pay122 r) (k0_pay123 r c)) = column (code J r c b) := rfl

/-! ### The running soft combinations, for every level and half -/

/-- The first half's soft combination after the first level. -/
theorem sum_0a : k0_pay51 z (k0_pay47 r v w) (k0_pay48 r v w) = addf z (soft r (flat v) (line w)) := rfl
/-- The second half's soft combination after the first level. -/
theorem sum_0b : k0_pay62 z (k0_pay57 r c b) = addf z (soft r c b) := rfl
/-- The first half's soft combination after the second level. -/
theorem sum_1a : k0_pay73 z (flat v) (k0_pay68 r v w) = addf z (soft r (flat v) (line w)) := rfl
/-- The second half's soft combination after the second level. -/
theorem sum_1b : k0_pay83 z (k0_pay80 r c b) = addf z (soft r c b) := rfl
/-- The first half's soft combination after the third level. -/
theorem sum_2a : k0_pay96 z (k0_pay91 r c w) = addf z (soft r c (line w)) := rfl
/-- The second half's soft combination after the third level. -/
theorem sum_2b : k0_pay105 z c (k0_pay102 r c b) (constant S512x256 .f32 0x00000000#32) = addf z (soft r c b) := rfl
/-- The first half's soft combination after the fourth level. -/
theorem sum_3a : k0_pay118 z (k0_pay114 r v w) = addf z (soft r (flat v) (line w)) := rfl
/-- The second half's soft combination after the fourth level. -/
theorem sum_3b : k0_pay132 z (k0_pay126 c b (k0_pay122 r) (k0_pay123 r c)) = addf z (soft r c b) := rfl

/-! ### The squared soft errors, for every level and half -/

/-- The squared soft errors with the first half's at the first level. -/
theorem errs_0a : k0_pay52 y z (k0_pay47 r v w) (k0_pay48 r v w) =
    plus zero (total (subf y (addf z (soft r (flat v) (line w))))) := rfl
/-- The squared soft errors with the second half's at the first level. -/
theorem errs_0b : k0_pay63 y z s (k0_pay57 r c b) = plus s (total (subf y (addf z (soft r c b)))) := rfl
/-- The squared soft errors with the first half's at the second level. -/
theorem errs_1a : k0_pay75 s (k0_pay74 y z (flat v) (k0_pay68 r v w)) =
    plus s (total (subf y (addf z (soft r (flat v) (line w))))) := rfl
/-- The squared soft errors with the second half's at the second level. -/
theorem errs_1b : k0_pay84 y z s (k0_pay80 r c b) = plus s (total (subf y (addf z (soft r c b)))) := rfl
/-- The squared soft errors with the first half's at the third level. -/
theorem errs_2a : k0_pay97 y z s (k0_pay91 r c w) = plus s (total (subf y (addf z (soft r c (line w))))) := rfl
/-- The squared soft errors with the second half's at the third level. -/
theorem errs_2b : k0_pay106 y z c s (k0_pay102 r c b) (constant S512x256 .f32 0x00000000#32) =
    plus s (total (subf y (addf z (soft r c b)))) := rfl
/-- The squared soft errors with the first half's at the fourth level. -/
theorem errs_3a : k0_pay119 y z s (k0_pay114 r v w) =
    plus s (total (subf y (addf z (soft r (flat v) (line w))))) := rfl
/-- The squared soft errors with the second half's at the fourth level. -/
theorem errs_3b : k0_pay133 y z s (k0_pay126 c b (k0_pay122 r) (k0_pay123 r c)) =
    plus s (total (subf y (addf z (soft r c b)))) := rfl

/-! ### The squared hard errors, for every level and half -/

/-- The squared hard errors with the first half's at the first level. -/
theorem errh_0a : k0_pay53 J r (k0_pay44 r v w) (k0_pay45 r v w) h1 h2 h3 =
    plus zero (total (rest J r (flat v) (line w) (flatPart h1) (flatPart h2) (flatPart h3))) := rfl
/-- The squared hard errors with the second half's at the first level. -/
theorem errh_0b : k0_pay65 r s (k0_pay59 J r c b) (k0_pay60 J r c b h1) h2 h3 =
    plus zero (plus s (total (rest J r c b (flatPart h1) (flatPart h2) (flatPart h3)))) := rfl
/-- The squared hard errors with the first half's at the second level. -/
theorem errh_1a : k0_pay76 r = plus zero (total r) := rfl
/-- The squared hard errors with the second half's at the second level. -/
theorem errh_1b : k0_pay86 J r s t (k0_pay81 J r c b) h1 h2 h3 =
    plus s (plus t (total (rest J r c b (flatPart h1) (flatPart h2) (flatPart h3)))) := rfl
/-- The squared hard errors with the first half's at the third level. -/
theorem errh_2a : k0_pay98 r (k0_pay93 J r c w) (k0_pay94 J r c w h1) h2 h3 =
    plus zero (total (rest J r c (line w) (flatPart h1) (flatPart h2) (flatPart h3))) := rfl
/-- The squared hard errors with the second half's at the third level. -/
theorem errh_2b : k0_pay109 s t (k0_pay107 J r (k0_pay100 r c b) (k0_pay101 r c b) h1 h2 h3) =
    plus s (plus t (total (rest J r c b (flatPart h1) (flatPart h2) (flatPart h3)))) := rfl
/-- The squared hard errors with the first half's at the fourth level. -/
theorem errh_3a : k0_pay120 J r (k0_pay116 J r v w) h1 h2 h3 =
    plus zero (total (rest J r (flat v) (line w) (flatPart h1) (flatPart h2) (flatPart h3))) := rfl
/-- The squared hard errors with the second half's at the fourth level. -/
theorem errh_3b : k0_pay134 r s (k0_pay129 J b (k0_pay122 r) (k0_pay123 r c) h1 h2)
      (k0_pay130 J b (k0_pay122 r) (k0_pay123 r c) h3) =
    plus s (total (rest J r c b (flatPart h1) (flatPart h2) (flatPart h3))) := rfl
/-- The squared hard errors of all levels, with the last half's added. -/
theorem errh_all : k0_pay136 r s t (k0_pay129 J b (k0_pay122 r) (k0_pay123 r c) h1 h2)
      (k0_pay130 J b (k0_pay122 r) (k0_pay123 r c) h3) =
    plus s (plus t (total (rest J r c b (flatPart h1) (flatPart h2) (flatPart h3)))) := rfl

/-! ### The last stores -/

/-- The hard combination of the first half: the rows less what is left of them. -/
theorem hard_a : k0_pay137 y r = subf y r := rfl
/-- The hard combination of the second half: the rows less what is left of them. -/
theorem hard_b : k0_pay138 y r (k0_pay129 J b (k0_pay122 r) (k0_pay123 r c) h1 h2)
      (k0_pay130 J b (k0_pay122 r) (k0_pay123 r c) h3) =
    subf y (rest J r c b (flatPart h1) (flatPart h2) (flatPart h3)) := rfl
/-- The squared differences of the soft from the hard combinations, both halves. -/
theorem join_all (y' r' z' : Rows) : k0_pay139 y y' r' z' r z (k0_pay126 c b (k0_pay122 r') (k0_pay123 r' c))
      (k0_pay129 J b (k0_pay122 r') (k0_pay123 r' c) h1 h2) (k0_pay130 J b (k0_pay122 r') (k0_pay123 r' c) h3) =
    plus (plus zero (total (subf z (subf y r))))
      (total (subf (addf z' (soft r' c b)) (subf y' (rest J r' c b (flatPart h1) (flatPart h2) (flatPart h3))))) := rfl

end Cert.KernelIdeal.Half
-- ==== Proof.Kern.Lift.lean ====
module
public import proofs.«01_k».proof.Proof.Lift
public import proofs.«01_k».proof.Proof.Kern.Ops
public import Idealize.ShloMosaic.Lib.PlanTiles.Rows

/-! # The kernel's level over real numbers -/

@[expose] public section
set_option maxRecDepth 16384

noncomputable section

namespace Cert.KernelIdeal.Half
open Idealize.ShloMosaic Cert.Quant
open Cert.KernelIdeal Cert.KernelIdeal.Gen

/-- The code numbers along each row. -/
def numbers : Numbers := iota Kind.tc S512x1024 32 [1] iota_S512x1024_d1_w32

/-- Half the squared length of each row, over real rows. -/
theorem halfLen_up (R : Fin 512 → Row) :
    halfLen (up2 R) = up2 (fun i _ => 1 / 2 * ∑ j, R i j * R i j) := by
  refine ext2 fun i j => ?_
  pointwise [halfLen, up2_apply]
  simp only [bits_half, ← EReal.coe_mul, sum_coe]

/-- The products of the rows with the codes, over real numbers. -/
theorem prods_up (R : Fin 512 → Row) (C : Book) :
    prods (up2 R) (up2 C) = up2 (fun i k => ∑ j, R i j * C k j) := by
  refine ext2 fun i j => ?_
  pointwise [prods, up2_apply]
  simp only [← EReal.coe_mul, sum_coe, zero_add]

/-- The kernel's distances are half the squared distances. -/
theorem near_up (R : Fin 512 → Row) (C : Book) :
    near (up2 R) (up2 C) (up2 fun _ => halfSq C) = up2 (fun i k => 1 / 2 * dist C (R i) k) := by
  refine ext2 fun i j => ?_
  rw [near, halfLen_up, prods_up]
  pointwise [near', up2_apply]
  simp only [← EReal.coe_add, ← EReal.coe_sub, halfSq, Quant.dist]
  congr 1; ring

/-- Halving every entry halves the largest. -/
theorem most_half (f : Fin 1024 → ℝ) : most (fun k => 1 / 2 * f k) = 1 / 2 * most f := by
  refine le_antisymm (Finset.sup'_le _ _ fun k _ => by linarith [le_most f k]) ?_
  obtain ⟨k, hk, e⟩ := Finset.exists_mem_eq_sup' (s := Finset.univ) ⟨0, Finset.mem_univ _⟩ f
  have := le_most (fun k => 1 / 2 * f k) k
  rw [show most f = f k from e]
  exact this

/-- A table divided by its rows' largest entries. -/
theorem scale_up (T : Fin 512 → Fin 1024 → ℝ) (h : ∀ i, most (T i) ≠ 0) :
    scale (up2 T) = up2 (fun i k => T i k / most (T i)) := by
  refine ext2 fun i j => ?_
  pointwise [scale, up2_apply]
  simp only [bits_bot, fold_max_coe, div_coe (h i)]

/-- The kernel's scaled distances are the distances over the largest of them: the halves cancel. -/
theorem rel_up (R : Fin 512 → Row) (C : Book) (h : Spread C) :
    scale (near (up2 R) (up2 C) (up2 fun _ => halfSq C)) = up2 (fun i => rel C (R i)) := by
  have hp : ∀ i, (0 : ℝ) < 1 / 2 * most (dist C (R i)) := fun i => by linarith [most_pos C (R i) h]
  rw [near_up, scale_up _ fun i => (most_half _ ▸ hp i).ne']
  refine ext2 fun i k => ?_
  simp only [up2_apply, most_half, rel]
  congr 1
  rw [mul_div_mul_left _ _ (by norm_num)]

/-- The least entry of each row. -/
theorem low_up (Q : Fin 512 → Fin 1024 → ℝ) : low (up2 Q) = up2 (fun i _ => least (Q i)) := by
  refine ext2 fun i j => ?_
  pointwise [low, up2_apply]
  simp only [bits_top, fold_min_coe]

/-- The weights of a table of scaled distances. -/
theorem weigh_up (Q : Fin 512 → Fin 1024 → ℝ) : weigh (up2 Q) = up2 (fun i k => Real.exp (least (Q i) - Q i k)) := by
  refine ext2 fun i j => ?_
  rw [weigh, low_up]
  pointwise [up2_apply]
  rw [← EReal.coe_sub, exp_coe]

/-- The weighted average of the codes. -/
theorem avg_up (E : Fin 512 → Fin 1024 → ℝ) (C : Book) (h : ∀ i, ∑ k, E i k ≠ 0) :
    avg (up2 E) (up2 C) = up2 (fun i j => (∑ k, E i k * C k j) / ∑ k, E i k) := by
  refine ext2 fun i j => ?_
  pointwise [avg, up2_apply]
  simp only [← EReal.coe_mul, sum_coe, zero_add]
  rw [show (1 : EReal) = ((1 : ℝ) : EReal) from rfl, div_coe (h i), ← EReal.coe_mul]
  congr 1; ring

/-- The kernel's soft combination of one level is the real one. -/
theorem soft_up (R : Fin 512 → Row) (C : Book) (h : Spread C) :
    soft (up2 R) (up2 C) (up2 fun _ => halfSq C) = up2 (fun i => Quant.soft C (R i)) := by
  rw [soft, rel_up R C h, weigh_up]
  refine (avg_up _ _ fun i => (weight_sum_pos C (R i)).ne').trans ?_
  rfl

/-- The fold of the signed minimum over small numbers is their smallest, or the number it starts from. -/
theorem fold_min_words (g : Fin 1024 → ℕ) (hg : ∀ k, g k < 2 ^ 31) (s : Finset (Fin 1024)) :
    ∃ n : ℕ, s.fold IntOp.minsi (2147483647#32) (fun k => BitVec.ofNat 32 (g k)) = BitVec.ofNat 32 n ∧ n < 2 ^ 31 ∧
      (∀ k ∈ s, n ≤ g k) ∧ (n = 2147483647 ∨ ∃ k ∈ s, n = g k) := by
  induction s using Finset.induction_on with
  | empty => exact ⟨2147483647, rfl, by norm_num, by simp, .inl rfl⟩
  | insert a s ha ih =>
    obtain ⟨n, e, hn, hle, hor⟩ := ih
    refine ⟨min n (g a), ?_, by omega, ?_, ?_⟩
    · rw [Finset.fold_insert ha, e, PlanTiles.minsi_word (hg a) hn]
    · intro k hk
      rcases Finset.mem_insert.1 hk with rfl | hk
      · exact min_le_right _ _
      · exact (min_le_left _ _).trans (hle k hk)
    · rcases le_total n (g a) with h | h
      · rw [min_eq_left h]
        exact hor.imp_right fun ⟨k, hk, e⟩ => ⟨k, Finset.mem_insert_of_mem hk, e⟩
      · exact .inr ⟨a, Finset.mem_insert_self _ _, min_eq_right h⟩

/-- The least position at which a row's least entry stands is the first such position. -/
theorem num_up (Q : Fin 512 → Fin 1024 → ℝ) : num numbers (up2 Q) = words (fun i => firstLeast (Q i)) := by
  refine ext1 fun i => ?_
  rw [num, low_up]
  pointwise [numbers, up2_apply, words_apply]
  obtain ⟨n, e, -, hle, hor⟩ := fold_min_words (fun k => if Q i k = least (Q i) then k.val else 1024)
    (fun k => by split <;> omega) Finset.univ
  have hx : (fun x : Fin 1024 => if ((Q i x : ℝ) : EReal) = ((least (Q i) : ℝ) : EReal) then BitVec.ofNat 32 x.val
      else 1024#32) = fun k => BitVec.ofNat 32 (if Q i k = least (Q i) then k.val else 1024) := by
    funext x
    simp only [EReal.coe_eq_coe_iff]
    split <;> rfl
  rw [hx, e]
  have h0 := hle (firstLeast (Q i)) (Finset.mem_univ _)
  rw [if_pos (firstLeast_eq (Q i))] at h0
  have h1 := (firstLeast (Q i)).isLt
  rcases hor with rfl | ⟨k, -, rfl⟩
  · omega
  · by_cases hk : Q i k = least (Q i)
    · have h2 := Fin.le_def.1 (firstLeast_le (Q i) k hk)
      rw [if_pos hk] at h0 ⊢
      rw [le_antisymm h0 h2]
    · rw [if_neg hk] at h0
      omega

/-- The table that is one at each row's number and zero elsewhere. -/
theorem hot_up (k : Fin 512 → Fin 1024) :
    hot numbers (words k) = up2 (fun i n => if n = k i then 1 else 0) := by
  refine ext2 fun i j => ?_
  pointwise [hot, column, numbers, up2_apply, words_apply]
  by_cases h : j = k i
  · subst h
    rw [if_pos rfl]
    simp [IntOp.cmpi, FloatOps.sitofp]
  · have hne : BitVec.ofNat 32 j.val ≠ BitVec.ofNat 32 (k i).val := fun e => h (Fin.ext (by
      have := congrArg BitVec.toNat e
      simp only [BitVec.toNat_ofNat] at this
      have := j.isLt
      have := (k i).isLt
      omega))
    rw [if_neg h]
    rw [IntOp.cmpi, show (BitVec.ofNat 32 j.val == BitVec.ofNat 32 (k i).val) = false from beq_eq_false_iff_ne.2 hne]
    simp [FloatOps.sitofp]

/-- The product of a table with a part of the codes. -/
theorem part_up (O : Fin 512 → Fin 1024 → ℝ) (H : Book) :
    part (up2 O) (up2 H) = up2 (fun i j => ∑ k, O i k * H k j) := by
  refine ext2 fun i j => ?_
  pointwise [part, up2_apply]
  simp only [← EReal.coe_mul, sum_coe, zero_add]

/-- The difference of two real tables. -/
theorem sub_up {φ : FTy} (A B : Fin 512 → Row) : subf (F := Ideal) (φ := φ) (up2 A) (up2 B) = up2 (fun i j => A i j - B i j) := rfl
/-- The sum of two real tables. -/
theorem add_up {φ : FTy} (A B : Fin 512 → Row) : addf (F := Ideal) (φ := φ) (up2 A) (up2 B) = up2 (fun i j => A i j + B i j) := rfl

/-- What one level leaves of each row: the row less its nearest code. The second and the third part of the codes are zero. -/
theorem rest_up (R : Fin 512 → Row) (C : Book) (h : Spread C) :
    rest numbers (up2 R) (up2 C) (up2 fun _ => halfSq C) (up2 C) (up2 fun _ _ => 0) (up2 fun _ _ => 0) =
      up2 (fun i => Quant.rest C (R i)) := by
  rw [rest, code, rel_up R C h, num_up, left, hot_up, part_up, part_up, add_up, add_up, sub_up]
  refine ext2 fun i j => ?_
  simp [up2_apply, Quant.rest, best]

/-- The column of the nearest codes' numbers. -/
theorem code_up (R : Fin 512 → Row) (C : Book) (h : Spread C) :
    column (code numbers (up2 R) (up2 C) (up2 fun _ => halfSq C)) = wordsCol (fun i => best C (R i)) := by
  rw [code, rel_up R C h, num_up]
  refine ext2 fun i j => ?_
  pointwise [column, words_apply, wordsCol_apply]
  rfl

/-- The sum of the squares of a real table. -/
theorem total_up (V : Fin 512 → Row) : total (up2 V) = ((Quant.sq V : ℝ) : EReal) := by
  pointwise [total, up2_apply]
  simp only [← EReal.coe_mul, sum_coe]
  rfl

/-- The sum of two real numbers. -/
theorem plus_up (a b : ℝ) : plus (a : EReal) (b : EReal) = ((a + b : ℝ) : EReal) := rfl
/-- The bits of zero. -/
theorem zero_up : zero = ((0 : ℝ) : EReal) := Ideal.ofBits_zero_f32
/-- The zero table. -/
theorem zeros_up : zeros = up2 (fun _ _ => 0) := by
  refine ext2 fun i j => ?_
  pointwise [zeros, up2_apply]
  rfl

end Cert.KernelIdeal.Half
-- ==== Proof.Kern.Init.lean ====
module

public import proofs.«01_k».proof.Proof.Lift
public import proofs.«01_k».proof.Proof.Kern.Ops

/-! # What the first grid point prepares

Before its first block the kernel splits each level's codes into three parts in the short format and takes half of every
code's squared length. Over the reals the first part is the codes and the other two are zero. -/

@[expose] public section

set_option maxRecDepth 16384

noncomputable section

namespace Cert.KernelIdeal.Half

open Idealize.ShloMosaic
open Cert.KernelIdeal Cert.KernelIdeal.Gen Cert.Quant

/-! ### The prepared arrays -/

/-- The first part of the codes. -/
def high (v : Codes1) : Part1 := k0_pay10 v
/-- The second part of the codes. -/
def mid (v : Codes1) : Part1 := k0_pay11 v
/-- The third part of the codes. -/
def tip (v : Codes1) : Part1 := k0_pay12 (k0_pay9 v)
/-- Half the squared lengths of the codes. -/
def lens (v : Codes1) : Line := k0_pay13 (k0_pay5 v)

/-- The first part of a real code is the code. -/
theorem high_up (B : Book) : high (up3 (φ := .f32) fun _ => B) = up3 (φ := .bf16) fun (_ : Fin 1) => B := by
  refine ext3 fun i j k => ?_
  pointwise [high, k0_pay13, k0_pay12, k0_pay11, k0_pay10, k0_pay9, k0_pay8, k0_pay7, k0_pay6, k0_pay5, up3_apply]

/-- The second part of a real code is zero. -/
theorem mid_up (B : Book) : mid (up3 (φ := .f32) fun _ => B) = up3 (φ := .bf16) fun _ _ _ => 0 := by
  refine ext3 fun i j k => ?_
  pointwise [mid, k0_pay13, k0_pay12, k0_pay11, k0_pay10, k0_pay9, k0_pay8, k0_pay7, k0_pay6, k0_pay5, up3_apply]
  rw [← EReal.coe_sub, sub_self]

/-- The third part of a real code is zero. -/
theorem tip_up (B : Book) : tip (up3 (φ := .f32) fun _ => B) = up3 (φ := .bf16) fun _ _ _ => 0 := by
  refine ext3 fun i j k => ?_
  pointwise [tip, k0_pay13, k0_pay12, k0_pay11, k0_pay10, k0_pay9, k0_pay8, k0_pay7, k0_pay6, k0_pay5, up3_apply]
  simp only [← EReal.coe_sub, sub_self]

/-- Half the squared lengths of the codes. -/
theorem lens_up (B : Book) : lens (up3 (φ := .f32) fun _ => B) = up2 fun _ => halfSq B := by
  refine ext2 fun i j => ?_
  pointwise [lens, k0_pay13, k0_pay12, k0_pay11, k0_pay10, k0_pay9, k0_pay8, k0_pay7, k0_pay6, k0_pay5, up3_apply, up2_apply]
  simp only [bits_half, ← EReal.coe_mul, sum_coe]
  rfl

/-- The codes without their leading axis. -/
theorem flat_up (B : Book) : flat (up3 (φ := .f32) fun _ => B) = up2 B := by
  refine ext2 fun i j => ?_
  pointwise [flat, up3_apply, up2_apply]

/-- A part of the codes without its leading axis. -/
theorem flatPart_up (B : Book) : flatPart (up3 (φ := .bf16) fun _ => B) = up2 B := by
  refine ext2 fun i j => ?_
  pointwise [flatPart, up3_apply, up2_apply]

/-- A line cast away from and back to two axes is itself. -/
theorem line_up (f : Fin 1024 → ℝ) : line (up2 fun _ => f) = up2 fun _ => f := by
  refine ext2 fun i j => ?_
  pointwise [line, up2_apply]

variable (v : Codes1)

/-! ### The same stores at every level -/

/-- The first part of the first level's codes. -/
theorem high_0 : k0_pay10 v = high v := rfl
/-- The first part of the second level's codes. -/
theorem high_1 : k0_pay18 v = high v := rfl
/-- The first part of the third level's codes. -/
theorem high_2 : k0_pay27 v = high v := rfl
/-- The first part of the fourth level's codes. -/
theorem high_3 : k0_pay36 (k0_pay32 v) = high v := rfl
/-- The second part of the first level's codes. -/
theorem mid_0 : k0_pay11 v = mid v := rfl
/-- The second part of the second level's codes. -/
theorem mid_1 : k0_pay19 v = mid v := rfl
/-- The second part of the third level's codes. -/
theorem mid_2 : k0_pay28 v = mid v := rfl
/-- The second part of the fourth level's codes. -/
theorem mid_3 : k0_pay37 (k0_pay34 v) = mid v := rfl
/-- The third part of the first level's codes. -/
theorem tip_0 : k0_pay12 (k0_pay9 v) = tip v := rfl
/-- The third part of the second level's codes. -/
theorem tip_1 : k0_pay20 v = tip v := rfl
/-- The third part of the third level's codes. -/
theorem tip_2 : k0_pay29 v = tip v := rfl
/-- The third part of the fourth level's codes. -/
theorem tip_3 : k0_pay38 (k0_pay35 v) = tip v := rfl
/-- Half the squared lengths of the first level's codes. -/
theorem lens_0 : k0_pay13 (k0_pay5 v) = lens v := rfl
/-- Half the squared lengths of the second level's codes. -/
theorem lens_1 : k0_pay22 (k0_pay21 v) = lens v := rfl
/-- Half the squared lengths of the third level's codes. -/
theorem lens_2 : k0_pay30 v = lens v := rfl
/-- Half the squared lengths of the fourth level's codes. -/
theorem lens_3 : k0_pay39 (k0_pay31 v) = lens v := rfl

end Cert.KernelIdeal.Half
-- ==== Proof.Kern.Blocks.lean ====
module

public import proofs.«01_k».proof.Proof.Lift
public import proofs.«01_k».proof.Proof.Gen.KernelIdeal.Frame
public import Idealize.ShloMosaic.Lib.Pipeline.ValueKit

/-! # What a grid point sees of the inputs

A point's block of rows, its two halves, and the four levels of codes, when the inputs are arrays of real numbers. -/

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen Cert.Quant

variable (m : (ℓ : Loc nD τ sig) → Buf (Elt Ideal) ℓ) (X : Fin 8192 → Row) (C : Fin 4 → Book)

/-- The rows of the block at point `t`. -/
def blockRows (X : Fin 8192 → Row) (t : Nat) (i : Fin 1024) : Row := X (Fin.ofNat 8192 (1024 * t + i.val))
/-- 512 rows of the block at point `t`, from row `o` of the block on. -/
def rowsAt (X : Fin 8192 → Row) (t o : Nat) (i : Fin 512) : Row := X (Fin.ofNat 8192 (1024 * t + (o + i.val)))

/-- Point `t` reads the rows' block `t`. -/
theorem idx0 : ∀ t : Fin cfg0.N, win0_0.index t = ![t.val, 0] := (by decide +kernel : ∀ t : Fin grid0.N, _)
/-- Every point reads the whole stack of codes. -/
theorem idx1 : ∀ t : Fin cfg0.N, win0_1.index t = ![0, 0, 0] := (by decide +kernel : ∀ t : Fin grid0.N, _)

/-- The rows a point reads. -/
theorem iblk_rows (c : Dev nD) (hX : m ((c : Thread nD τ).loc main_arg0) = up2 (φ := .f32) X) (t : Fin cfg0.N) :
    iblk m c 0 t = up2 (φ := .f32) (blockRows X t.val) := by
  have ht : t.val < 8 := lt_of_lt_of_eq t.isLt N_0
  refine ext2 fun i j => ?_
  show m ((c : Thread nD τ).loc main_arg0) ((win0_0.blk t).view.emb (ix2 i j)) = _
  rw [hX]
  refine congrArg (fun r : ℝ => (r : EReal)) ?_
  refine congrArg₂ X (Fin.ext ?_) (Fin.ext ?_)
  · refine (win0_0.rect_emb_val t (ix2 i j) 0).trans ?_
    rw [idx0]
    show t.val * 1024 + i.val = (1024 * t.val + i.val) % 8192
    omega
  · refine (win0_0.rect_emb_val t (ix2 i j) 1).trans ?_
    rw [idx0]
    show 0 * 256 + j.val = j.val
    omega

/-- The codes a point reads. -/
theorem iblk_codes (c : Dev nD) (hC : m ((c : Thread nD τ).loc main_arg1) = up3 (φ := .f32) C) (t : Fin cfg0.N) :
    iblk m c 1 t = up3 (φ := .f32) C := by
  refine ext3 fun i j k => ?_
  show m ((c : Thread nD τ).loc main_arg1) ((win0_1.blk t).view.emb (ix3 i j k)) = _
  rw [hC]
  refine congrArg (fun r : ℝ => (r : EReal)) ?_
  refine congr (congrArg₂ C (Fin.ext ?_) (Fin.ext ?_)) (Fin.ext ?_)
  · exact win0_1.rect_emb_val_of_index_zero t 0 (by rw [idx1]; rfl) (ix3 i j k)
  · exact win0_1.rect_emb_val_of_index_zero t 1 (by rw [idx1]; rfl) (ix3 i j k)
  · exact win0_1.rect_emb_val_of_index_zero t 2 (by rw [idx1]; rfl) (ix3 i j k)

/-! ### Halves of a block of rows and levels of a stack of codes -/

/-- The first half of a block of rows. -/
theorem rows_lo (t : Nat) :
    View.ld (Val := Elt Ideal) (e' := .f32) (up2 (φ := .f32) (blockRows X t) : Vec Ideal S1024x256 .f32)
      (Rect.unit (s := S1024x256) ![0, 0] ![512, 256] inb_S1024x256_S512x256_0_0) =
      (up2 (φ := .f32) (rowsAt X t 0) : Vec Ideal S512x256 .f32) := by
  refine ext2 fun i j => ?_
  refine congrArg (fun r : ℝ => (r : EReal)) ?_
  refine congrArg₂ X (congrArg (fun n => Fin.ofNat 8192 (1024 * t + n)) ?_) (Fin.ext ?_)
  · show 0 + 1 * i.val = 0 + i.val
    omega
  · show 0 + 1 * j.val = j.val
    omega

/-- The second half of a block of rows. -/
theorem rows_hi (t : Nat) :
    View.ld (Val := Elt Ideal) (e' := .f32) (up2 (φ := .f32) (blockRows X t) : Vec Ideal S1024x256 .f32)
      (Rect.unit (s := S1024x256) ![512, 0] ![512, 256] inb_S1024x256_S512x256_512_0) =
      (up2 (φ := .f32) (rowsAt X t 512) : Vec Ideal S512x256 .f32) := by
  refine ext2 fun i j => ?_
  refine congrArg (fun r : ℝ => (r : EReal)) ?_
  refine congrArg₂ X (congrArg (fun n => Fin.ofNat 8192 (1024 * t + n)) ?_) (Fin.ext ?_)
  · show 512 + 1 * i.val = 512 + i.val
    omega
  · show 0 + 1 * j.val = j.val
    omega

/-- One level of a stack, entry by entry. -/
theorem level_apply (l : Fin 4) (inb : ∀ a, (![l.val, 0, 0] : Fin 3 → Nat) a + S1x1024x256.size a ≤ S4x1024x256.size a) (i : Fin 1)
    (j : Fin 1024) (k : Fin 256) :
    (up3 (φ := .f32) C : S4x1024x256.Idx → EReal) ((Rect.unit (s := S4x1024x256) ![l.val, 0, 0] S1x1024x256.size inb).emb (ix3 i j k)) =
      ((C l j k : ℝ) : EReal) := by
  refine congrArg (fun r : ℝ => (r : EReal)) ?_
  refine congr (congrArg₂ C (Fin.ext ?_) (Fin.ext ?_)) (Fin.ext ?_)
  · show l.val + 1 * i.val = l.val
    omega
  · show 0 + 1 * j.val = j.val
    omega
  · show 0 + 1 * k.val = k.val
    omega

/-- One line of a table, entry by entry. -/
theorem line_apply (f : Fin 4 → Fin 1024 → ℝ) (l : Fin 4)
    (inb : ∀ a, (![l.val, 0] : Fin 2 → Nat) a + S1x1024.size a ≤ S4x1024.size a) (i : Fin 1) (j : Fin 1024) :
    (up2 (φ := .f32) f : S4x1024.Idx → EReal) ((Rect.unit (s := S4x1024) ![l.val, 0] S1x1024.size inb).emb (ix2 i j)) =
      ((f l j : ℝ) : EReal) := by
  refine congrArg (fun r : ℝ => (r : EReal)) ?_
  refine congrArg₂ f (Fin.ext ?_) (Fin.ext ?_)
  · show l.val + 1 * i.val = l.val
    omega
  · show 0 + 1 * j.val = j.val
    omega

/-- The first level of a stack of codes. -/
theorem codes_0 :
    View.ld (Val := Elt Ideal) (e' := .f32) (up3 (φ := .f32) C : Vec Ideal S4x1024x256 .f32)
      (Rect.unit (s := S4x1024x256) ![0, 0, 0] ![1, 1024, 256] inb_S4x1024x256_S1x1024x256_0_0_0) =
      (up3 (φ := .f32) fun (_ : Fin 1) => C 0 : Vec Ideal S1x1024x256 .f32) :=
  ext3 fun i j k => level_apply C 0 inb_S4x1024x256_S1x1024x256_0_0_0 i j k
/-- The first level of the stack of first parts. -/
theorem highs_0 :
    View.ld (Val := Elt Ideal) (e' := .bf16) (up3 (φ := .bf16) C : Vec Ideal S4x1024x256 .bf16)
      (Rect.unit (s := S4x1024x256) ![0, 0, 0] ![1, 1024, 256] inb_S4x1024x256_S1x1024x256_0_0_0) =
      (up3 (φ := .bf16) fun (_ : Fin 1) => C 0 : Vec Ideal S1x1024x256 .bf16) :=
  ext3 fun i j k => level_apply C 0 inb_S4x1024x256_S1x1024x256_0_0_0 i j k
/-- The first level's half squared lengths. -/
theorem halves_0 (f : Fin 4 → Fin 1024 → ℝ) :
    View.ld (Val := Elt Ideal) (e' := .f32) (up2 (φ := .f32) f : Vec Ideal S4x1024 .f32)
      (Rect.unit (s := S4x1024) ![0, 0] ![1, 1024] inb_S4x1024_S1x1024_0_0) =
      (up2 (φ := .f32) fun (_ : Fin 1) => f 0 : Vec Ideal S1x1024 .f32) :=
  ext2 fun i j => line_apply f 0 inb_S4x1024_S1x1024_0_0 i j
/-- The first level of a stack of zeros. -/
theorem none_0 :
    View.ld (Val := Elt Ideal) (e' := .bf16) (up3 (φ := .bf16) fun _ _ _ => 0 : Vec Ideal S4x1024x256 .bf16)
      (Rect.unit (s := S4x1024x256) ![0, 0, 0] ![1, 1024, 256] inb_S4x1024x256_S1x1024x256_0_0_0) =
      (up3 (φ := .bf16) fun _ _ _ => 0 : Vec Ideal S1x1024x256 .bf16) := rfl
/-- The second level of a stack of codes. -/
theorem codes_1 :
    View.ld (Val := Elt Ideal) (e' := .f32) (up3 (φ := .f32) C : Vec Ideal S4x1024x256 .f32)
      (Rect.unit (s := S4x1024x256) ![1, 0, 0] ![1, 1024, 256] inb_S4x1024x256_S1x1024x256_1_0_0) =
      (up3 (φ := .f32) fun (_ : Fin 1) => C 1 : Vec Ideal S1x1024x256 .f32) :=
  ext3 fun i j k => level_apply C 1 inb_S4x1024x256_S1x1024x256_1_0_0 i j k
/-- The second level of the stack of first parts. -/
theorem highs_1 :
    View.ld (Val := Elt Ideal) (e' := .bf16) (up3 (φ := .bf16) C : Vec Ideal S4x1024x256 .bf16)
      (Rect.unit (s := S4x1024x256) ![1, 0, 0] ![1, 1024, 256] inb_S4x1024x256_S1x1024x256_1_0_0) =
      (up3 (φ := .bf16) fun (_ : Fin 1) => C 1 : Vec Ideal S1x1024x256 .bf16) :=
  ext3 fun i j k => level_apply C 1 inb_S4x1024x256_S1x1024x256_1_0_0 i j k
/-- The second level's half squared lengths. -/
theorem halves_1 (f : Fin 4 → Fin 1024 → ℝ) :
    View.ld (Val := Elt Ideal) (e' := .f32) (up2 (φ := .f32) f : Vec Ideal S4x1024 .f32)
      (Rect.unit (s := S4x1024) ![1, 0] ![1, 1024] inb_S4x1024_S1x1024_1_0) =
      (up2 (φ := .f32) fun (_ : Fin 1) => f 1 : Vec Ideal S1x1024 .f32) :=
  ext2 fun i j => line_apply f 1 inb_S4x1024_S1x1024_1_0 i j
/-- The second level of a stack of zeros. -/
theorem none_1 :
    View.ld (Val := Elt Ideal) (e' := .bf16) (up3 (φ := .bf16) fun _ _ _ => 0 : Vec Ideal S4x1024x256 .bf16)
      (Rect.unit (s := S4x1024x256) ![1, 0, 0] ![1, 1024, 256] inb_S4x1024x256_S1x1024x256_1_0_0) =
      (up3 (φ := .bf16) fun _ _ _ => 0 : Vec Ideal S1x1024x256 .bf16) := rfl
/-- The third level of a stack of codes. -/
theorem codes_2 :
    View.ld (Val := Elt Ideal) (e' := .f32) (up3 (φ := .f32) C : Vec Ideal S4x1024x256 .f32)
      (Rect.unit (s := S4x1024x256) ![2, 0, 0] ![1, 1024, 256] inb_S4x1024x256_S1x1024x256_2_0_0) =
      (up3 (φ := .f32) fun (_ : Fin 1) => C 2 : Vec Ideal S1x1024x256 .f32) :=
  ext3 fun i j k => level_apply C 2 inb_S4x1024x256_S1x1024x256_2_0_0 i j k
/-- The third level of the stack of first parts. -/
theorem highs_2 :
    View.ld (Val := Elt Ideal) (e' := .bf16) (up3 (φ := .bf16) C : Vec Ideal S4x1024x256 .bf16)
      (Rect.unit (s := S4x1024x256) ![2, 0, 0] ![1, 1024, 256] inb_S4x1024x256_S1x1024x256_2_0_0) =
      (up3 (φ := .bf16) fun (_ : Fin 1) => C 2 : Vec Ideal S1x1024x256 .bf16) :=
  ext3 fun i j k => level_apply C 2 inb_S4x1024x256_S1x1024x256_2_0_0 i j k
/-- The third level's half squared lengths. -/
theorem halves_2 (f : Fin 4 → Fin 1024 → ℝ) :
    View.ld (Val := Elt Ideal) (e' := .f32) (up2 (φ := .f32) f : Vec Ideal S4x1024 .f32)
      (Rect.unit (s := S4x1024) ![2, 0] ![1, 1024] inb_S4x1024_S1x1024_2_0) =
      (up2 (φ := .f32) fun (_ : Fin 1) => f 2 : Vec Ideal S1x1024 .f32) :=
  ext2 fun i j => line_apply f 2 inb_S4x1024_S1x1024_2_0 i j
/-- The third level of a stack of zeros. -/
theorem none_2 :
    View.ld (Val := Elt Ideal) (e' := .bf16) (up3 (φ := .bf16) fun _ _ _ => 0 : Vec Ideal S4x1024x256 .bf16)
      (Rect.unit (s := S4x1024x256) ![2, 0, 0] ![1, 1024, 256] inb_S4x1024x256_S1x1024x256_2_0_0) =
      (up3 (φ := .bf16) fun _ _ _ => 0 : Vec Ideal S1x1024x256 .bf16) := rfl
/-- The fourth level of a stack of codes. -/
theorem codes_3 :
    View.ld (Val := Elt Ideal) (e' := .f32) (up3 (φ := .f32) C : Vec Ideal S4x1024x256 .f32)
      (Rect.unit (s := S4x1024x256) ![3, 0, 0] ![1, 1024, 256] inb_S4x1024x256_S1x1024x256_3_0_0) =
      (up3 (φ := .f32) fun (_ : Fin 1) => C 3 : Vec Ideal S1x1024x256 .f32) :=
  ext3 fun i j k => level_apply C 3 inb_S4x1024x256_S1x1024x256_3_0_0 i j k
/-- The fourth level of the stack of first parts. -/
theorem highs_3 :
    View.ld (Val := Elt Ideal) (e' := .bf16) (up3 (φ := .bf16) C : Vec Ideal S4x1024x256 .bf16)
      (Rect.unit (s := S4x1024x256) ![3, 0, 0] ![1, 1024, 256] inb_S4x1024x256_S1x1024x256_3_0_0) =
      (up3 (φ := .bf16) fun (_ : Fin 1) => C 3 : Vec Ideal S1x1024x256 .bf16) :=
  ext3 fun i j k => level_apply C 3 inb_S4x1024x256_S1x1024x256_3_0_0 i j k
/-- The fourth level's half squared lengths. -/
theorem halves_3 (f : Fin 4 → Fin 1024 → ℝ) :
    View.ld (Val := Elt Ideal) (e' := .f32) (up2 (φ := .f32) f : Vec Ideal S4x1024 .f32)
      (Rect.unit (s := S4x1024) ![3, 0] ![1, 1024] inb_S4x1024_S1x1024_3_0) =
      (up2 (φ := .f32) fun (_ : Fin 1) => f 3 : Vec Ideal S1x1024 .f32) :=
  ext2 fun i j => line_apply f 3 inb_S4x1024_S1x1024_3_0 i j
/-- The fourth level of a stack of zeros. -/
theorem none_3 :
    View.ld (Val := Elt Ideal) (e' := .bf16) (up3 (φ := .bf16) fun _ _ _ => 0 : Vec Ideal S4x1024x256 .bf16)
      (Rect.unit (s := S4x1024x256) ![3, 0, 0] ![1, 1024, 256] inb_S4x1024x256_S1x1024x256_3_0_0) =
      (up3 (φ := .bf16) fun _ _ _ => 0 : Vec Ideal S1x1024x256 .bf16) := rfl

end Cert.KernelIdeal.Value
-- ==== Proof.Kern.Outs.lean ====
module

public import proofs.«01_k».proof.Proof.Kern.Lift
public import proofs.«01_k».proof.Proof.Kern.Init
public import proofs.«01_k».proof.Proof.Kern.Blocks
public import Idealize.ShloMosaic.Lib.Pipeline.ReadBack

/-! # What a grid point leaves

The prepared arrays at every point, and the two halves of every block of results. -/

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen Cert.KernelIdeal.Half Cert.Quant

variable (m : (ℓ : Loc nD τ sig) → Buf (Elt Ideal) ℓ) (X : Fin 8192 → Row) (C : Fin 4 → Book)

/-- A part of zeros is a table of zeros. -/
theorem none_up : flatPart (up3 (φ := .bf16) fun _ _ _ => 0) = up2 (φ := .bf16) fun _ _ => 0 := flatPart_up fun _ _ => 0
/-- The counter along a row. -/
theorem numbers_eq : iota Kind.tc S512x1024 32 [1] iota_S512x1024_d1_w32 = numbers := rfl

/-! ### A piece of an array, read in the whole -/

/-- A level's codes are that level of the stack. -/
theorem glue_level (l : Fin 4) (x : S1x1024x256.Idx) (y : S4x1024x256.Idx) (h0 : (y 0 : ℕ) = l.val + (x 0 : ℕ))
    (hx : (x 0 : ℕ) < 1) (h1 : (y 1 : ℕ) = x 1) (h2 : (y 2 : ℕ) = x 2) :
    (up3 (φ := .bf16) fun (_ : Fin 1) => C l) x = up3 (φ := .bf16) C y := by
  refine congrArg (fun r : ℝ => (r : EReal)) (congr (congrArg₂ C (Fin.ext ?_) (Fin.ext ?_)) (Fin.ext ?_))
  · exact (by omega : l.val = (y 0 : ℕ))
  · exact h1.symm
  · exact h2.symm

/-- A level's line is that line of the table. -/
theorem glue_line (f : Fin 4 → Fin 1024 → ℝ) (l : Fin 4) (x : S1x1024.Idx) (y : S4x1024.Idx)
    (h0 : (y 0 : ℕ) = l.val + (x 0 : ℕ)) (hx : (x 0 : ℕ) < 1) (h1 : (y 1 : ℕ) = x 1) :
    (up2 (φ := .f32) fun (_ : Fin 1) => f l) x = up2 (φ := .f32) f y := by
  refine congrArg (fun r : ℝ => (r : EReal)) (congrArg₂ f (Fin.ext ?_) (Fin.ext ?_))
  · exact (by omega : l.val = (y 0 : ℕ))
  · exact h1.symm

/-- A function of half a block's rows is that half of the function of the block's rows. -/
theorem glue_rows (f : Row → Row) (t o : Nat) (x : S512x256.Idx) (y : S1024x256.Idx) (h0 : (y 0 : ℕ) = o + (x 0 : ℕ))
    (h1 : (y 1 : ℕ) = x 1) :
    (up2 (φ := .f32) fun i => f (rowsAt X t o i)) x = up2 (φ := .f32) (fun i => f (blockRows X t i)) y := by
  refine congrArg (fun r : ℝ => (r : EReal))
    (congr (congrArg f (congrArg (fun n => X (Fin.ofNat 8192 (1024 * t + n))) h0.symm)) (Fin.ext h1.symm))

/-- The same for one code number a row. -/
theorem glue_words (f : Row → Fin 1024) (t o : Nat) (x : S512x1.Idx) (y : S1024x1.Idx) (h0 : (y 0 : ℕ) = o + (x 0 : ℕ)) :
    (wordsCol fun i => f (rowsAt X t o i)) x = wordsCol (fun i => f (blockRows X t i)) y := by
  refine congrArg (fun r : Fin 1024 => BitVec.ofNat 32 r.val)
    (congrArg f (congrArg (fun n => X (Fin.ofNat 8192 (1024 * t + n))) h0.symm))

/-! ### The prepared arrays -/

variable (c : Dev nD) (t : Fin cfg0.N)

/-- The first point leaves the codes, two arrays of zeros, and half the codes' squared lengths. -/
theorem prepared (hC : m ((c : Thread nD τ).loc main_arg1) = up3 (φ := .f32) C) (h : t.val % 8 = 0) :
    (outsAt0 m c t.val t.isLt).2.2.2.2.2.2.2.1 = up3 (φ := .bf16) C ∧
      (outsAt0 m c t.val t.isLt).2.2.2.2.2.2.2.2.1 = up3 (φ := .bf16) (fun _ _ _ => 0) ∧
      (outsAt0 m c t.val t.isLt).2.2.2.2.2.2.2.2.2.1 = up3 (φ := .bf16) (fun _ _ _ => 0) ∧
      (outsAt0 m c t.val t.isLt).2.2.2.2.2.2.2.2.2.2 = up2 (φ := .f32) (fun l => halfSq (C l)) := by
  rw [outsAt0_A m c t h]
  refine ⟨?_, ?_, ?_, ?_⟩
  all_goals
    frame_out
    rw [iblk_codes m C c hC t]
    simp only [codes_0, codes_1, codes_2, codes_3, high_0, high_1, high_2, high_3, mid_0, mid_1, mid_2, mid_3, tip_0, tip_1,
      tip_2, tip_3, lens_0, lens_1, lens_2, lens_3, high_up, mid_up, tip_up, lens_up]
    funext y
    canon_tiles x h
  · exact glue_level C 3 x y h0 x0_lt h1 h2
  · exact glue_level C 2 x y h0 x0_lt h1 h2
  · exact glue_level C 1 x y h0 x0_lt h1 h2
  · exact glue_level C 0 x y (h0.trans (Nat.zero_add _).symm) x0_lt h1 h2
  iterate 8 rfl
  · exact glue_line (fun l => halfSq (C l)) 3 x y h0 x0_lt h1
  · exact glue_line (fun l => halfSq (C l)) 2 x y h0 x0_lt h1
  · exact glue_line (fun l => halfSq (C l)) 1 x y h0 x0_lt h1
  · exact glue_line (fun l => halfSq (C l)) 0 x y (h0.trans (Nat.zero_add _).symm) x0_lt h1

/-- Every later point leaves them as they were. -/
theorem carried (h : ¬ t.val % 8 = 0) :
    (outsAt0 m c t.val t.isLt).2.2.2.2.2.2.2 =
      (outsAt0 m c (t.val - 1) (Nat.lt_of_le_of_lt (Nat.sub_le _ 1) t.isLt)).2.2.2.2.2.2.2 := by
  rw [outsAt0_B m c t h]
  rfl

/-- So every point leaves them. -/
theorem held (hC : m ((c : Thread nD τ).loc main_arg1) = up3 (φ := .f32) C) : ∀ (n : ℕ) (hn : n < cfg0.N),
    (outsAt0 m c n hn).2.2.2.2.2.2.2 = (up3 (φ := .bf16) C, up3 (φ := .bf16) (fun _ _ _ => 0),
      up3 (φ := .bf16) (fun _ _ _ => 0), up2 (φ := .f32) (fun l => halfSq (C l)))
  | 0, hn => by
    obtain ⟨a, b, d, e⟩ := prepared m C c ⟨0, hn⟩ hC rfl
    exact Prod.ext a (Prod.ext b (Prod.ext d e))
  | n + 1, hn => by
    by_cases h : (n + 1) % 8 = 0
    · obtain ⟨a, b, d, e⟩ := prepared m C c ⟨n + 1, hn⟩ hC h
      exact Prod.ext a (Prod.ext b (Prod.ext d e))
    · exact (carried m c ⟨n + 1, hn⟩ h).trans (held hC n _)

/-! ### The blocks of results -/

/-- Every point's six blocks of results, as functions of its rows. -/
theorem blocks (hX : m ((c : Thread nD τ).loc main_arg0) = up2 (φ := .f32) X)
    (hC : m ((c : Thread nD τ).loc main_arg1) = up3 (φ := .f32) C) (hS : ∀ l, Spread (C l)) :
    (outsAt0 m c t.val t.isLt).1 = up2 (φ := .f32) (fun i j => blockRows X t.val i j - r4 C (blockRows X t.val i) j) ∧
      (outsAt0 m c t.val t.isLt).2.1 = up2 (φ := .f32) (fun i => s4 C (blockRows X t.val i)) ∧
      (outsAt0 m c t.val t.isLt).2.2.1 = wordsCol (fun i => best (C 0) (blockRows X t.val i)) ∧
      (outsAt0 m c t.val t.isLt).2.2.2.1 = wordsCol (fun i => best (C 1) (r1 C (blockRows X t.val i))) ∧
      (outsAt0 m c t.val t.isLt).2.2.2.2.1 = wordsCol (fun i => best (C 2) (r2 C (blockRows X t.val i))) ∧
      (outsAt0 m c t.val t.isLt).2.2.2.2.2.1 = wordsCol (fun i => best (C 3) (r3 C (blockRows X t.val i))) := by
  have p := held m C c hC (t.val - 1) (Nat.lt_of_le_of_lt (Nat.sub_le _ 1) t.isLt)
  refine ⟨?_, ?_, ?_, ?_, ?_, ?_⟩
  all_goals by_cases h : t.val % 8 = 0
  all_goals
    first
    | rw [outsAt0_A m c t h]
      frame_open
      simp (disch := decide) only [↓ View.readCov_skip, ↓ View.readCov_cons_toLoadRect]
      frame_out
    | rw [outsAt0_B m c t h]
      frame_out
      simp only [read_unread_whole, p]
    rw [iblk_rows m X c hX t, iblk_codes m C c hC t]
    simp only [rows_lo, rows_hi, codes_0, codes_1, codes_2, codes_3, highs_0, highs_1, highs_2, highs_3, none_0, none_1, none_2, none_3,
    halves_0, halves_1, halves_2, halves_3, high_0, high_1, high_2, high_3, mid_0, mid_1, mid_2, mid_3, tip_0, tip_1, tip_2, tip_3,
    lens_0, lens_1, lens_2, lens_3, flat_0, flat_1, flat_2, flat_3, line_0, line_1, line_2, line_3, zeros_0, zeros_1,
      code_0a, code_0b, code_1a, code_1b, code_2a, code_2b, code_3a, code_3b, rest_0a, rest_0b, rest_1a, rest_1b, rest_2a, rest_2b,
    rest_3a, sum_0a, sum_0b, sum_1a, sum_1b, sum_2a, sum_2b, sum_3a, sum_3b, hard_a, hard_b]
    rw [numbers_eq]
    simp only [high_up, mid_up, tip_up, lens_up, flat_up, flatPart_up, none_up, line_up, zeros_up, numbers_eq, add_up, sub_up,
      rest_up _ (C 0) (hS 0), rest_up _ (C 1) (hS 1), rest_up _ (C 2) (hS 2), rest_up _ (C 3) (hS 3),
      soft_up _ (C 0) (hS 0), soft_up _ (C 1) (hS 1), soft_up _ (C 2) (hS 2), soft_up _ (C 3) (hS 3),
      code_up _ (C 0) (hS 0), code_up _ (C 1) (hS 1), code_up _ (C 2) (hS 2), code_up _ (C 3) (hS 3), zero_add]
    funext y
    canon_tiles x h
  iterate 2
    · exact glue_rows X (fun r j => r j - r4 C r j) t.val 512 x y h0 h1
    · exact glue_rows X (fun r j => r j - r4 C r j) t.val 0 x y (h0.trans (Nat.zero_add _).symm) h1
  iterate 2
    · exact glue_rows X (s4 C) t.val 512 x y h0 h1
    · exact glue_rows X (s4 C) t.val 0 x y (h0.trans (Nat.zero_add _).symm) h1
  iterate 2
    · exact glue_words X (best (C 0)) t.val 512 x y h0
    · exact glue_words X (best (C 0)) t.val 0 x y (h0.trans (Nat.zero_add _).symm)
  iterate 2
    · exact glue_words X (fun r => best (C 1) (r1 C r)) t.val 512 x y h0
    · exact glue_words X (fun r => best (C 1) (r1 C r)) t.val 0 x y (h0.trans (Nat.zero_add _).symm)
  iterate 2
    · exact glue_words X (fun r => best (C 2) (r2 C r)) t.val 512 x y h0
    · exact glue_words X (fun r => best (C 2) (r2 C r)) t.val 0 x y (h0.trans (Nat.zero_add _).symm)
  iterate 2
    · exact glue_words X (fun r => best (C 3) (r3 C r)) t.val 512 x y h0
    · exact glue_words X (fun r => best (C 3) (r3 C r)) t.val 0 x y (h0.trans (Nat.zero_add _).symm)

end Cert.KernelIdeal.Value
-- ==== Proof.Kern.Stats.lean ====
module

public import proofs.«01_k».proof.Proof.Kern.Outs
public import Idealize.ShloMosaic.Lib.CellWrites

/-! # The running sums of squared errors

The kernel keeps four sums in a short list of numbers, sets them to zero before the first block, and adds every block's
squared errors to them. -/

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen Cert.KernelIdeal.Half Cert.Quant

variable (m : (ℓ : Loc nD τ sig) → Buf (Elt Ideal) ℓ) (X : Fin 8192 → Row) (C : Fin 4 → Book)

/-- Under stores of single numbers, a cell holds the newest store's number if that store is to the cell, and otherwise what
the earlier stores left. -/
theorem cell_of_stores {e : EltTy} {Val : EltTy → Type} [∀ e, Nonempty (Val e)] {d off : Fin 1 → ℕ}
    (inb : ∀ a, off a + (![1] : Fin 1 → ℕ) a ≤ (⟨1, d⟩ : Shape).size a) (p : Val e)
    (L : List (View.Piece Val (⟨1, d⟩ : Shape) e)) (y : (⟨1, d⟩ : Shape).Idx) :
    View.canon ((⟨Rect.unit off ![1] inb, fun _ => p⟩ : View.Piece Val (⟨1, d⟩ : Shape) e) :: L) y =
      if (y 0).val = off 0 then p else View.canon L y := by
  by_cases h : (y 0).val = off 0
  · rw [if_pos h]
    have hy : (Rect.unit (s := ⟨1, d⟩) off ![1] inb).emb (fun a => ⟨0, by fin_cases a; exact Nat.one_pos⟩) = y :=
      funext fun a => Fin.ext (by fin_cases a; exact h.symm)
    rw [← hy]
    exact View.canon_cons_emb _ _ _ _
  · rw [if_neg h]
    exact View.canon_cons_of_not_mem _ _ fun hm => h ((Rect.mem_set_cell (inb := inb)).mp hm)

/-- The first store adds a number to the first sum. -/
theorem acc_0 (a b : Ideal .f32) : k0_pay1 a b = plus b a := rfl
/-- The second store adds a number to the second sum. -/
theorem acc_1 (a b : Ideal .f32) : k0_pay2 a b = plus b a := rfl
/-- The third store adds a number to the third sum. -/
theorem acc_2 (a b : Ideal .f32) : k0_pay3 a b = plus b a := rfl
/-- The fourth store adds a number to the fourth sum. -/
theorem acc_3 (a b : Ideal .f32) : k0_pay4 a b = plus b a := rfl

/-- The four squared errors of some rows. -/
def errs (C : Fin 4 → Book) {n : ℕ} (V : Fin n → Row) : Fin 4 → ℝ := ![softErr C V, hardErr C V, lastErr C V, jointErr C V]
/-- The four squared errors of the block at point `t`. -/
def step (X : Fin 8192 → Row) (C : Fin 4 → Book) (t : ℕ) (k : Fin 4) : ℝ :=
  errs C (rowsAt X t 0) k + errs C (rowsAt X t 512) k

variable (c : Dev nD) (t : Fin cfg0.N)

/-- Adding one real number to another. -/
theorem plus_to {a : Ideal .f32} {b r s : ℝ} (ha : a = (b : EReal)) (hr : r = s) : plus a (r : EReal) = ((b + s : ℝ) : EReal) := by
  rw [ha, hr, plus_up]

/-- A point adds its block's squared errors to the sums it finds, or to zero at the first point. -/
theorem stats_step (hX : m ((c : Thread nD τ).loc main_arg0) = up2 (φ := .f32) X)
    (hC : m ((c : Thread nD τ).loc main_arg1) = up3 (φ := .f32) C) (hS : ∀ l, Spread (C l)) (base : Fin 4 → ℝ)
    (hA : t.val % 8 = 0 → ∀ k, base k = 0)
    (hB : ¬ t.val % 8 = 0 → ∀ k : Fin 4,
      (outsAt0 m c (t.val - 1) (Nat.lt_of_le_of_lt (Nat.sub_le _ 1) t.isLt)).2.2.2.2.2.2.1
        (ix1 (k.castLE (by decide) : Fin 8)) = ((base k : ℝ) : EReal)) (k : Fin 4) :
    (outsAt0 m c t.val t.isLt).2.2.2.2.2.2.1 (ix1 (k.castLE (by decide) : Fin 8)) =
      ((base k + step X C t.val k : ℝ) : EReal) := by
  have p := held m C c hC (t.val - 1) (Nat.lt_of_le_of_lt (Nat.sub_le _ 1) t.isLt)
  by_cases h : t.val % 8 = 0
  all_goals
    first
    | rw [outsAt0_A m c t h]
      frame_open
      simp (disch := decide) only [↓ View.readCov_skip, ↓ View.readCov_cons_toLoadRect]
      frame_out
    | rw [outsAt0_B m c t h]
      frame_out
      simp only [read_unread_whole, p]
    rw [iblk_rows m X c hX t, iblk_codes m C c hC t]
    simp only [rows_lo, rows_hi, codes_0, codes_1, codes_2, codes_3, highs_0, highs_1, highs_2, highs_3, none_0, none_1, none_2, none_3,
    halves_0, halves_1, halves_2, halves_3, high_0, high_1, high_2, high_3, mid_0, mid_1, mid_2, mid_3, tip_0, tip_1, tip_2, tip_3,
    lens_0, lens_1, lens_2, lens_3, flat_0, flat_1, flat_2, flat_3, line_0, line_1, line_2, line_3, zeros_0, zeros_1,
      code_0a, code_0b, code_1a, code_1b, code_2a, code_2b, code_3a, code_3b, rest_0a, rest_0b, rest_1a, rest_1b, rest_2a, rest_2b,
    rest_3a, sum_0a, sum_0b, sum_1a, sum_1b, sum_2a, sum_2b, sum_3a, sum_3b, hard_a, hard_b,
      errs_0a, errs_0b, errs_1a, errs_1b, errs_2a, errs_2b, errs_3a, errs_3b, errh_0a, errh_0b, errh_1a, errh_1b, errh_2a, errh_2b,
    errh_3a, errh_3b, errh_all, join_all]
    rw [numbers_eq]
    simp only [high_up, mid_up, tip_up, lens_up, flat_up, flatPart_up, none_up, line_up, zeros_up, numbers_eq, add_up, sub_up,
      rest_up _ (C 0) (hS 0), rest_up _ (C 1) (hS 1), rest_up _ (C 2) (hS 2), rest_up _ (C 3) (hS 3),
      soft_up _ (C 0) (hS 0), soft_up _ (C 1) (hS 1), soft_up _ (C 2) (hS 2), soft_up _ (C 3) (hS 3), zero_add,
      total_up, plus_up, zero_up, acc_0, acc_1, acc_2, acc_3]
    fin_cases k
  all_goals
    simp (decide := true) only [cell_of_stores, View.read_writes_cons_cell, if_true, if_false]
    refine plus_to ?_ ?_
  iterate 2
    · first
      | rw [hA h]
        exact zero_up
      | exact (congrArg (outsAt0 m c (t.val - 1) (Nat.lt_of_le_of_lt (Nat.sub_le _ 1) t.isLt)).2.2.2.2.2.2.1
          (funext fun a => by fin_cases a; rfl)).trans (hB h 0)
    · show _ = softErr C (rowsAt X t.val 0) + softErr C (rowsAt X t.val 512)
      simp only [softErr, s1, s2, s3, s4, r1, r2, r3, r4]
      ring
    · first
      | rw [hA h]
        exact zero_up
      | exact (congrArg (outsAt0 m c (t.val - 1) (Nat.lt_of_le_of_lt (Nat.sub_le _ 1) t.isLt)).2.2.2.2.2.2.1
          (funext fun a => by fin_cases a; rfl)).trans (hB h 1)
    · show _ = hardErr C (rowsAt X t.val 0) + hardErr C (rowsAt X t.val 512)
      simp only [hardErr, s1, s2, s3, s4, r1, r2, r3, r4]
      ring
    · first
      | rw [hA h]
        exact zero_up
      | exact (congrArg (outsAt0 m c (t.val - 1) (Nat.lt_of_le_of_lt (Nat.sub_le _ 1) t.isLt)).2.2.2.2.2.2.1
          (funext fun a => by fin_cases a; rfl)).trans (hB h 2)
    · show _ = lastErr C (rowsAt X t.val 0) + lastErr C (rowsAt X t.val 512)
      simp only [lastErr, s1, s2, s3, s4, r1, r2, r3, r4]
    · first
      | rw [hA h]
        exact zero_up
      | exact (congrArg (outsAt0 m c (t.val - 1) (Nat.lt_of_le_of_lt (Nat.sub_le _ 1) t.isLt)).2.2.2.2.2.2.1
          (funext fun a => by fin_cases a; rfl)).trans (hB h 3)
    · show _ = jointErr C (rowsAt X t.val 0) + jointErr C (rowsAt X t.val 512)
      simp only [jointErr, s1, s2, s3, s4, r1, r2, r3, r4]

/-- After point `n` the sums are over the blocks up to `n`. -/
theorem stats_sum (hX : m ((c : Thread nD τ).loc main_arg0) = up2 (φ := .f32) X)
    (hC : m ((c : Thread nD τ).loc main_arg1) = up3 (φ := .f32) C) (hS : ∀ l, Spread (C l)) :
    ∀ (n : ℕ) (hn : n < cfg0.N) (k : Fin 4),
      (outsAt0 m c n hn).2.2.2.2.2.2.1 (ix1 (k.castLE (by decide) : Fin 8)) =
        ((∑ t ∈ Finset.range (n + 1), step X C t k : ℝ) : EReal)
  | 0, hn, k => by
    refine (stats_step m X C c ⟨0, hn⟩ hX hC hS 0 (fun _ _ => rfl) (fun h => absurd rfl h) k).trans ?_
    rw [Finset.sum_range_one, Pi.zero_apply, zero_add]
  | n + 1, hn, k => by
    have h8 : n + 1 < 8 := lt_of_lt_of_eq hn N_0
    rw [Finset.sum_range_succ]
    exact stats_step m X C c ⟨n + 1, hn⟩ hX hC hS (fun k => ∑ t ∈ Finset.range (n + 1), step X C t k)
      (fun h => absurd (show (n + 1) % 8 = 0 from h) (by omega)) (fun _ k => stats_sum hX hC hS n _ k) k

end Cert.KernelIdeal.Value
-- ==== Proof.Kern.Arrays.lean ====
module

public import proofs.«01_k».proof.Proof.Kern.Stats

/-! # The arrays the kernel leaves

Each result array is covered by the blocks the eight points write back, and the list of sums is written back once, at the
last point. -/

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen Cert.KernelIdeal.Half Cert.Quant

/-! ### Where each point's blocks lie -/

/-- Point `t` writes block `t` of array 2. -/
theorem idx2 : ∀ t : Fin cfg0.N, win0_2.index t = ![t.val, 0] := (by decide +kernel : ∀ t : Fin grid0.N, _)
/-- Point `t` writes block `t` of array 3. -/
theorem idx3 : ∀ t : Fin cfg0.N, win0_3.index t = ![t.val, 0] := (by decide +kernel : ∀ t : Fin grid0.N, _)
/-- Point `t` writes block `t` of array 4. -/
theorem idx4 : ∀ t : Fin cfg0.N, win0_4.index t = ![t.val, 0] := (by decide +kernel : ∀ t : Fin grid0.N, _)
/-- Point `t` writes block `t` of array 5. -/
theorem idx5 : ∀ t : Fin cfg0.N, win0_5.index t = ![t.val, 0] := (by decide +kernel : ∀ t : Fin grid0.N, _)
/-- Point `t` writes block `t` of array 6. -/
theorem idx6 : ∀ t : Fin cfg0.N, win0_6.index t = ![t.val, 0] := (by decide +kernel : ∀ t : Fin grid0.N, _)
/-- Point `t` writes block `t` of array 7. -/
theorem idx7 : ∀ t : Fin cfg0.N, win0_7.index t = ![t.val, 0] := (by decide +kernel : ∀ t : Fin grid0.N, _)

variable (m : (ℓ : Loc nD τ sig) → Buf (Elt Ideal) ℓ) (X : Fin 8192 → Row) (C : Fin 4 → Book) (c : Dev nD)

/-- The row of the whole table at place `i` of the block at point `t`. -/
def put (t : ℕ) (i : Fin 1024) : Fin 8192 := Fin.ofNat 8192 (1024 * t + i)

/-- A row of a block is that row of the whole table. -/
theorem put_eq {t : ℕ} (ht : t < 8) (i : Fin 1024) {r : Fin 8192} (h : r.val = t * 1024 + i.val) : put t i = r := by
  refine Fin.ext ?_
  show (1024 * t + i.val) % 8192 = r.val
  have := i.isLt
  omega

/-- A block of a table, read at its place in the table. -/
theorem table_at {n : ℕ} (F : Fin 8192 → Fin n → ℝ) {t : ℕ} (ht : t < 8) (y : (⟨2, ![1024, n]⟩ : Shape).Idx)
    (z : (⟨2, ![8192, n]⟩ : Shape).Idx) (h0 : (z 0).val = t * 1024 + (y 0).val) (h1 : (z 1).val = 0 * n + (y 1).val) :
    up2 (φ := .f32) (fun i j => F (put t i) j) y = up2 (φ := .f32) F z := by
  refine congrArg (fun r : ℝ => (r : EReal)) ?_
  refine congrArg₂ F (put_eq ht _ h0) (Fin.ext ?_)
  rw [h1, Nat.zero_mul, Nat.zero_add]

/-- A block of a column of numbers, read at its place in the column. -/
theorem column_at (K : Fin 8192 → Fin 1024) {t : ℕ} (ht : t < 8) (y : (⟨2, ![1024, 1]⟩ : Shape).Idx)
    (z : (⟨2, ![8192, 1]⟩ : Shape).Idx) (h0 : (z 0).val = t * 1024 + (y 0).val) :
    wordsCol (fun i => K (put t i)) y = wordsCol K z :=
  congrArg (fun r => BitVec.ofNat 32 (K r).val) (put_eq ht _ h0)

section
variable (hX : m ((c : Thread nD τ).loc main_arg0) = up2 (φ := .f32) X)
  (hC : m ((c : Thread nD τ).loc main_arg1) = up3 (φ := .f32) C) (hS : ∀ l, Spread (C l))
include hX hC hS

/-- The first array: every row less what its four levels left of it. -/
theorem final_hard : (dats m 0 c).arrAt 2 (cfgs 0).N = up2 (φ := .f32) (fun i j => X i j - r4 C (X i) j) := by
  refine (dats m 0 c).arrAt_eq_of_covers 2 _ (by decide +kernel) fun t hf y => ?_
  have ht : t.val < 8 := lt_of_lt_of_eq t.isLt N_0
  have e0 := win0_2.rect_emb_val t y 0
  have e1 := win0_2.rect_emb_val t y 1
  rw [idx2] at e0 e1
  blk_simp
  rw [after0_2, (blocks m X C c t hX hC hS).1]
  exact table_at (fun i j => X i j - r4 C (X i) j) ht y _ e0 e1

/-- The second array: every row's soft combination of the four levels. -/
theorem final_soft : (dats m 0 c).arrAt 3 (cfgs 0).N = up2 (φ := .f32) (fun i j => s4 C (X i) j) := by
  refine (dats m 0 c).arrAt_eq_of_covers 3 _ (by decide +kernel) fun t hf y => ?_
  have ht : t.val < 8 := lt_of_lt_of_eq t.isLt N_0
  have e0 := win0_3.rect_emb_val t y 0
  have e1 := win0_3.rect_emb_val t y 1
  rw [idx3] at e0 e1
  blk_simp
  rw [after0_3, (blocks m X C c t hX hC hS).2.1]
  exact table_at (fun i j => s4 C (X i) j) ht y _ e0 e1

/-- Every row's code at the first level. -/
theorem final_code0 : (dats m 0 c).arrAt 4 (cfgs 0).N = wordsCol (fun i => best (C 0) (X i)) := by
  refine (dats m 0 c).arrAt_eq_of_covers 4 _ (by decide +kernel) fun t hf y => ?_
  have ht : t.val < 8 := lt_of_lt_of_eq t.isLt N_0
  have e0 := win0_4.rect_emb_val t y 0
  rw [idx4] at e0
  blk_simp
  rw [after0_4, (blocks m X C c t hX hC hS).2.2.1]
  exact column_at (fun i => best (C 0) (X i)) ht y _ e0

/-- Every row's code at the second level. -/
theorem final_code1 : (dats m 0 c).arrAt 5 (cfgs 0).N = wordsCol (fun i => best (C 1) (r1 C (X i))) := by
  refine (dats m 0 c).arrAt_eq_of_covers 5 _ (by decide +kernel) fun t hf y => ?_
  have ht : t.val < 8 := lt_of_lt_of_eq t.isLt N_0
  have e0 := win0_5.rect_emb_val t y 0
  rw [idx5] at e0
  blk_simp
  rw [after0_5, (blocks m X C c t hX hC hS).2.2.2.1]
  exact column_at (fun i => best (C 1) (r1 C (X i))) ht y _ e0

/-- Every row's code at the third level. -/
theorem final_code2 : (dats m 0 c).arrAt 6 (cfgs 0).N = wordsCol (fun i => best (C 2) (r2 C (X i))) := by
  refine (dats m 0 c).arrAt_eq_of_covers 6 _ (by decide +kernel) fun t hf y => ?_
  have ht : t.val < 8 := lt_of_lt_of_eq t.isLt N_0
  have e0 := win0_6.rect_emb_val t y 0
  rw [idx6] at e0
  blk_simp
  rw [after0_6, (blocks m X C c t hX hC hS).2.2.2.2.1]
  exact column_at (fun i => best (C 2) (r2 C (X i))) ht y _ e0

/-- Every row's code at the fourth level. -/
theorem final_code3 : (dats m 0 c).arrAt 7 (cfgs 0).N = wordsCol (fun i => best (C 3) (r3 C (X i))) := by
  refine (dats m 0 c).arrAt_eq_of_covers 7 _ (by decide +kernel) fun t hf y => ?_
  have ht : t.val < 8 := lt_of_lt_of_eq t.isLt N_0
  have e0 := win0_7.rect_emb_val t y 0
  rw [idx7] at e0
  blk_simp
  rw [after0_7, (blocks m X C c t hX hC hS).2.2.2.2.2]
  exact column_at (fun i => best (C 3) (r3 C (X i))) ht y _ e0

/-- The list of sums, at its first four places: each sum over all points' blocks. -/
theorem final_stats (k : Fin 4) : (dats m 0 c).arrAt 8 (cfgs 0).N (ix1 (k.castLE (by decide) : Fin 8)) =
    ((∑ t ∈ Finset.range 8, step X C t k : ℝ) : EReal) := by
  have e : (dats m 0 c).arrAt 8 (cfgs 0).N = (outsAt0 m c 7 t0_7.isLt).2.2.2.2.2.2.1 := by
    refine (dats m 0 c).arrAt_eq_of_after_last 8 t0_7 (by decide +kernel) _ fun j => ?_
    exact congrFun (after0_8 m c t0_7) j
  rw [e]
  exact stats_sum m X C c hX hC hS 7 t0_7.isLt k

end

/-! ### The sums over the whole table -/

/-- A sum over `n` times `a` numbers, by runs of `a`. -/
theorem sum_runs (f : ℕ → ℝ) (a : ℕ) : ∀ n : ℕ,
    ∑ i ∈ Finset.range (a * n), f i = ∑ t ∈ Finset.range n, ∑ i ∈ Finset.range a, f (a * t + i)
  | 0 => by rw [Nat.mul_zero, Finset.sum_range_zero, Finset.sum_range_zero]
  | n + 1 => by rw [Nat.mul_succ, Finset.sum_range_add, sum_runs f a n, Finset.sum_range_succ]

/-- The squares of a table of rows, summed half a block after half a block. -/
theorem sq_runs (g : Row → Row) :
    Quant.sq (fun i => g (X i)) =
      ∑ t ∈ Finset.range 8, (Quant.sq (fun i => g (rowsAt X t 0 i)) + Quant.sq (fun i => g (rowsAt X t 512 i))) := by
  have e (o t : ℕ) : Quant.sq (fun i => g (rowsAt X t o i)) =
      ∑ i ∈ Finset.range 512, ∑ j, g (X (Fin.ofNat 8192 (1024 * t + (o + i)))) j * g (X (Fin.ofNat 8192 (1024 * t + (o + i)))) j :=
    (Finset.sum_range fun i => ∑ j, g (X (Fin.ofNat 8192 (1024 * t + (o + i)))) j *
      g (X (Fin.ofNat 8192 (1024 * t + (o + i)))) j).symm
  have e' : Quant.sq (fun i => g (X i)) =
      ∑ i ∈ Finset.range (1024 * 8), ∑ j, g (X (Fin.ofNat 8192 i)) j * g (X (Fin.ofNat 8192 i)) j := by
    refine Eq.trans ?_ (Finset.sum_range fun i => ∑ j, g (X (Fin.ofNat 8192 i)) j * g (X (Fin.ofNat 8192 i)) j).symm
    refine Finset.sum_congr rfl fun i _ => ?_
    rw [show Fin.ofNat 8192 i.val = i from Fin.ext (Nat.mod_eq_of_lt i.isLt)]
  rw [e', sum_runs]
  refine Finset.sum_congr rfl fun t _ => ?_
  rw [e, e, show (1024 : ℕ) = 512 + 512 from rfl, Finset.sum_range_add]
  simp only [Nat.zero_add]

/-- The squared errors of all rows are the sums over the points' blocks. -/
theorem errs_runs (k : Fin 4) : ∑ t ∈ Finset.range 8, step X C t k = errs C X k := by
  fin_cases k
  · show ∑ t ∈ Finset.range 8, (softErr C (rowsAt X t 0) + softErr C (rowsAt X t 512)) = softErr C X
    unfold softErr
    rw [sq_runs X (fun x j => x j - s1 C x j), sq_runs X (fun x j => x j - s2 C x j), sq_runs X (fun x j => x j - s3 C x j),
      sq_runs X (fun x j => x j - s4 C x j), ← Finset.sum_add_distrib, ← Finset.sum_add_distrib, ← Finset.sum_add_distrib]
    exact Finset.sum_congr rfl fun t _ => by ring
  · show ∑ t ∈ Finset.range 8, (hardErr C (rowsAt X t 0) + hardErr C (rowsAt X t 512)) = hardErr C X
    unfold hardErr
    rw [sq_runs X (r1 C), sq_runs X (r2 C), sq_runs X (r3 C), sq_runs X (r4 C),
      ← Finset.sum_add_distrib, ← Finset.sum_add_distrib, ← Finset.sum_add_distrib]
    exact Finset.sum_congr rfl fun t _ => by ring
  · exact (sq_runs X (r4 C)).symm
  · exact (sq_runs X (fun x j => s4 C x j - (x j - r4 C x j))).symm

end Cert.KernelIdeal.Value
-- ==== Proof.Kern.Tail.lean ====
module

public import proofs.«01_k».proof.Proof.Kern.Arrays
public import Idealize.ShloMosaic.Lib.Claim
public import Idealize.ShloMosaic.Lib.StableHlo.RunHlo
public import Idealize.ShloMosaic.Lib.StableHlo.RunRead
public import Idealize.ShloMosaic.Lib.Pointwise

/-! # The kernel's results

After the kernel, the host divides each of the four sums by the number of its terms and puts the four columns of codes side
by side. -/

@[expose] public section

set_option maxRecDepth 16384

noncomputable section

namespace Cert.KernelIdeal.Value

open Idealize.ShloMosaic Idealize.ShloMosaic.TcCoe Idealize.ShloMosaic.StableHlo Idealize.SL.Sem
open Idealize.ShloMosaic.Pipeline (Dat)
open Cert.KernelIdeal Cert.KernelIdeal.Gen Cert.KernelIdeal.Half Cert.Quant

/-- One of the sums, as a number of its own. -/
def pick0 (x : FVec Ideal S8 .f32) : FVec Ideal S_ .f32 := shapeCast S_ (extractStridedSlice S1 ![0] x slices_S8_S1_0) shapeCasts_S1_S_
/-- The second sum. -/
def pick1 (x : FVec Ideal S8 .f32) : FVec Ideal S_ .f32 := shapeCast S_ (extractStridedSlice S1 ![1] x slices_S8_S1_1) shapeCasts_S1_S_
/-- The third sum. -/
def pick2 (x : FVec Ideal S8 .f32) : FVec Ideal S_ .f32 := shapeCast S_ (extractStridedSlice S1 ![2] x slices_S8_S1_2) shapeCasts_S1_S_
/-- The fourth sum. -/
def pick3 (x : FVec Ideal S8 .f32) : FVec Ideal S_ .f32 := shapeCast S_ (extractStridedSlice S1 ![3] x slices_S8_S1_3) shapeCasts_S1_S_
/-- A sum over the number of rows. -/
def perRow (s : FVec Ideal S_ .f32) : FVec Ideal S_ .f32 := Host.divf s (constant S_ .f32 0x46000000#32)
/-- A sum over the number of rows times the number of columns. -/
def perEntry (s : FVec Ideal S_ .f32) : FVec Ideal S_ .f32 :=
  Host.divf s (mulf (constant S_ .f32 0x46000000#32) (constant S_ .f32 0x43800000#32))
/-- Four columns side by side. -/
def side (k0 k1 k2 k3 : IVec S8192x1 32) : IVec S8192x4 32 :=
  concatenate S8192x4 1 [⟨S8192x1, k0⟩, ⟨S8192x1, k1⟩, ⟨S8192x1, k2⟩, ⟨S8192x1, k3⟩]
    concatenates_S8192x1_S8192x1_S8192x1_S8192x1_S8192x4_d1

/-- What the host's operations leave in their result buffers. -/
theorem tail_reads (V : Valuation τ sig (Elt Ideal)) :
    after hostOps1 V (Proc.devRef .tc main_v0_2) = perRow (pick0 (V (Proc.devRef .tc main_call0_v0_6)))
    ∧ after hostOps1 V (Proc.devRef .tc main_v0_3) = perRow (pick1 (V (Proc.devRef .tc main_call0_v0_6)))
    ∧ after hostOps1 V (Proc.devRef .tc main_v0_4) = perEntry (pick3 (V (Proc.devRef .tc main_call0_v0_6)))
    ∧ after hostOps1 V (Proc.devRef .tc main_v0_5) = perRow (pick2 (V (Proc.devRef .tc main_call0_v0_6)))
    ∧ after hostOps1 V (Proc.devRef .tc main_v0_6) = side (V (Proc.devRef .tc main_call0_v0_2)) (V (Proc.devRef .tc main_call0_v0_3))
        (V (Proc.devRef .tc main_call0_v0_4)) (V (Proc.devRef .tc main_call0_v0_5)) := by
  refine ⟨?_, ?_, ?_, ?_, ?_⟩ <;> after_reads_simp <;> rfl

/-! ### Over real numbers -/

/-- The bits of 256. -/
theorem bits_cols : Ideal.ofBits .f32 0x43800000#32 = ((256 : ℝ) : EReal) := by
  simp [Ideal.ofBits, Ideal.ieee, -EReal.coe_mul]; norm_num

/-- A real number over the number of rows. -/
theorem perRow_up (a : ℝ) : perRow (sc a) = sc (a / 8192) := by
  funext j
  show Ideal.div (a : EReal) (Ideal.ofBits .f32 0x46000000#32) = ((a / 8192 : ℝ) : EReal)
  rw [bits_rows, div_coe (by norm_num)]

/-- A real number over the number of entries. -/
theorem perEntry_up (a : ℝ) : perEntry (sc a) = sc (a / 2097152) := by
  funext j
  show Ideal.div (a : EReal) (Ideal.ofBits .f32 0x46000000#32 * Ideal.ofBits .f32 0x43800000#32) = ((a / 2097152 : ℝ) : EReal)
  rw [bits_rows, bits_cols, ← EReal.coe_mul, show (8192 * 256 : ℝ) = 2097152 by norm_num, div_coe (by norm_num)]

/-- The first sum, read out of the list. -/
theorem pick0_up (x : FVec Ideal S8 .f32) {a : ℝ} (h : x (ix1 (0 : Fin 8)) = (a : EReal)) : pick0 x = sc a := by
  funext j
  pointwise [pick0]
  exact h

/-- The second sum, read out of the list. -/
theorem pick1_up (x : FVec Ideal S8 .f32) {a : ℝ} (h : x (ix1 (1 : Fin 8)) = (a : EReal)) : pick1 x = sc a := by
  funext j
  pointwise [pick1]
  exact h

/-- The third sum, read out of the list. -/
theorem pick2_up (x : FVec Ideal S8 .f32) {a : ℝ} (h : x (ix1 (2 : Fin 8)) = (a : EReal)) : pick2 x = sc a := by
  funext j
  pointwise [pick2]
  exact h

/-- The fourth sum, read out of the list. -/
theorem pick3_up (x : FVec Ideal S8 .f32) {a : ℝ} (h : x (ix1 (3 : Fin 8)) = (a : EReal)) : pick3 x = sc a := by
  funext j
  pointwise [pick3]
  exact h

/-! ### What the program's buffers hold at the end -/

variable (m : (ℓ : Loc nD τ sig) → Buf (Elt Ideal) ℓ) (c : Dev nD)

/-- The buffers the host's operations read, after the kernel. -/
abbrev left : Valuation τ sig (Elt Ideal) := Pipeline.withArrays spec0 c (V0 m c) fun w => (dats m 0 c).arrAt w (cfgs 0).N

/-- Each result array's buffer holds that array. -/
theorem left_arr (w : Fin 9) : left m c (Proc.devRef .tc (Pipeline.arrRef spec0 w)) = (dats m 0 c).arrAt w (cfgs 0).N :=
  Pipeline.withArrays_arr spec0 launch0.win.arr_inj c (V0 m c) (fun w => (dats m 0 c).arrAt w (cfgs 0).N) w

variable (X : Fin 8192 → Row) (C : Fin 4 → Book)
variable (hX : m ((c : Thread nD τ).loc main_arg0) = up2 (φ := .f32) X)
  (hC : m ((c : Thread nD τ).loc main_arg1) = up3 (φ := .f32) C) (hS : ∀ l, Spread (C l))
include hX hC hS

/-- The list of sums holds the four squared errors of all rows. -/
theorem stats_up (k : Fin 4) :
    left m c (Proc.devRef .tc main_call0_v0_6) (ix1 (k.castLE (by decide) : Fin 8)) = ((errs C X k : ℝ) : EReal) := by
  refine (congrFun (left_arr m c 8) _).trans ((final_stats m X C c hX hC hS k).trans ?_)
  rw [errs_runs]

/-- The four means and the codes, in the buffers the host's operations write. -/
theorem tail_up :
    Pipeline.afterTail₀ cfgs (dats m) 0 (V0 m) [hostOps1] c main_v0_2 = sc (φ := .f32) (softErr C X / 8192)
    ∧ Pipeline.afterTail₀ cfgs (dats m) 0 (V0 m) [hostOps1] c main_v0_3 = sc (φ := .f32) (hardErr C X / 8192)
    ∧ Pipeline.afterTail₀ cfgs (dats m) 0 (V0 m) [hostOps1] c main_v0_4 = sc (φ := .f32) (jointErr C X / 2097152)
    ∧ Pipeline.afterTail₀ cfgs (dats m) 0 (V0 m) [hostOps1] c main_v0_5 = sc (φ := .f32) (lastErr C X / 8192)
    ∧ Pipeline.afterTail₀ cfgs (dats m) 0 (V0 m) [hostOps1] c main_v0_6 =
        side (wordsCol fun i => best (C 0) (X i)) (wordsCol fun i => best (C 1) (r1 C (X i)))
          (wordsCol fun i => best (C 2) (r2 C (X i))) (wordsCol fun i => best (C 3) (r3 C (X i))) := by
  obtain ⟨h2, h3, h4, h5, h6⟩ := tail_reads (left m c)
  refine ⟨h2.trans ?_, h3.trans ?_, h4.trans ?_, h5.trans ?_, h6.trans ?_⟩
  · rw [pick0_up _ (stats_up m c X C hX hC hS 0), perRow_up]; rfl
  · rw [pick1_up _ (stats_up m c X C hX hC hS 1), perRow_up]; rfl
  · rw [pick3_up _ (stats_up m c X C hX hC hS 3), perEntry_up]; rfl
  · rw [pick2_up _ (stats_up m c X C hX hC hS 2), perRow_up]; rfl
  · have e0 := (left_arr m c 4).trans (final_code0 m X C c hX hC hS)
    have e1 := (left_arr m c 5).trans (final_code1 m X C c hX hC hS)
    have e2 := (left_arr m c 6).trans (final_code2 m X C c hX hC hS)
    have e3 := (left_arr m c 7).trans (final_code3 m X C c hX hC hS)
    exact congr (congr (congrArg₂ side e0 e1) e2) e3

end Cert.KernelIdeal.Value
-- ==== Proof.Ref.LiftSoft.lean ====
module
public import proofs.«01_k».proof.Proof.Lift
public import proofs.«01_k».proof.Proof.Ref.Level

/-! # The reference's level over real numbers -/

@[expose] public section
set_option maxRecDepth 16384

noncomputable section

namespace Cert.ReferenceIdeal.Line
open Idealize.ShloMosaic Cert.Quant
open Cert.ReferenceIdeal Cert.ReferenceIdeal.Gen

/-- The reference's table of squared distances. -/
theorem diff_up (R : Fin 8192 → Row) (C : Book) : diff (up2 R) (up2 C) = up2 (fun i => Quant.dist C (R i)) := by
  refine ext2 fun i k => ?_
  pointwise [diff, up2_apply]
  simp only [bits_two, ← EReal.coe_mul, sum_coe, zero_add, ← EReal.coe_add, ← EReal.coe_sub]
  rfl

/-- The largest entry of each row. -/
theorem rowMax_up (T : Fin 8192 → Fin 1024 → ℝ) :
    Host.reduce FloatOps.maximumf (up2 T : Table) (constant S_ .f32 0xFF800000#32) reducesTo_S8192x1024_S8192_d1 h_S_ =
      up1 (fun i => most (T i)) := by
  refine ext1 fun i => ?_
  pointwise [up2_apply, up1_apply]
  simp only [bits_bot, fold_max_coe]

/-- The operations behind the negative scaled distances. -/
theorem negNorm_def (t : Table) : negNorm t =
    mulf (broadcastInDim S8192x1024 ![] bcast_S_S8192x1024 (constant S_ .f32 0xBF800000#32))
      (Host.divf t
        (broadcastInDim S8192x1024 ![0, 1] bcast_S8192x1_S8192x1024_0_1
          (broadcastInDim S8192x1 ![0] bcast_S8192_S8192x1_0
            (Host.reduce FloatOps.maximumf t (constant S_ .f32 0xFF800000#32) reducesTo_S8192x1024_S8192_d1 h_S_)))) := by
  delta negNorm
  with_reducible rfl

/-- The same with the row maxima a variable, at one entry. -/
theorem negNorm_at (t : Table) (m : FVec Ideal S8192 .f32) (i : Fin 8192) (k : Fin 1024) :
    mulf (broadcastInDim S8192x1024 ![] bcast_S_S8192x1024 (constant S_ .f32 0xBF800000#32))
      (Host.divf t
        (broadcastInDim S8192x1024 ![0, 1] bcast_S8192x1_S8192x1024_0_1
          (broadcastInDim S8192x1 ![0] bcast_S8192_S8192x1_0 m))) (ix2 i k) =
      Ideal.ofBits .f32 0xBF800000#32 * Ideal.div (t (ix2 i k)) (m (ix1 i)) := by
  pointwise []

/-- The negatives of a table divided by its rows' largest entries. -/
theorem negNorm_up (T : Fin 8192 → Fin 1024 → ℝ) (h : ∀ i, most (T i) ≠ 0) :
    negNorm (up2 T) = up2 (negT fun i k => T i k / most (T i)) := by
  rw [negNorm_def, rowMax_up]
  refine ext2 fun i k => ?_
  rw [negNorm_at, up2_apply, up2_apply, up1_apply, bits_neg_one, div_coe (h i), ← EReal.coe_mul, neg_one_mul, negT]

/-- The largest of the negatives is the negative of the least. -/
theorem most_neg (f : Fin 1024 → ℝ) : most (fun k => -f k) = -least f := by
  refine le_antisymm (Finset.sup'_le _ _ fun k _ => neg_le_neg (least_le f k)) ?_
  obtain ⟨k, hk, e⟩ := Finset.exists_mem_eq_inf' (s := Finset.univ) ⟨0, Finset.mem_univ _⟩ f
  rw [show least f = f k from e]
  exact le_most (fun k => -f k) k

/-- The operations behind the weights. -/
theorem expo_def (t : Table) : expo t =
    Host.exp (subf t
      (broadcastInDim S8192x1024 ![0, 1] bcast_S8192x1_S8192x1024_0_1
        (broadcastInDim S8192x1 ![0] bcast_S8192_S8192x1_0
          (maximumf (broadcastInDim S8192 ![] bcast_S_S8192 (constant S_ .f32 0xFF800000#32))
            (Host.reduce FloatOps.maximumf t (constant S_ .f32 0xFF800000#32) reducesTo_S8192x1024_S8192_d1 h_S_))))) := by
  delta expo
  with_reducible rfl

/-- The same with the row maxima a variable, at one entry. -/
theorem expo_at (t : Table) (m : FVec Ideal S8192 .f32) (i : Fin 8192) (k : Fin 1024) :
    Host.exp (subf t
      (broadcastInDim S8192x1024 ![0, 1] bcast_S8192x1_S8192x1024_0_1
        (broadcastInDim S8192x1 ![0] bcast_S8192_S8192x1_0
          (maximumf (broadcastInDim S8192 ![] bcast_S_S8192 (constant S_ .f32 0xFF800000#32)) m)))) (ix2 i k) =
      Ideal.exp (t (ix2 i k) - max (Ideal.ofBits .f32 0xFF800000#32) (m (ix1 i))) := by
  pointwise []

/-- The weights of a table of negative scaled distances. -/
theorem expo_up (Q : Fin 8192 → Fin 1024 → ℝ) :
    expo (up2 (negT Q)) = up2 (fun i k => Real.exp (least (Q i) - Q i k)) := by
  rw [expo_def, rowMax_up]
  refine ext2 fun i k => ?_
  have e : most (negT Q i) = -least (Q i) := most_neg (Q i)
  rw [expo_at, up2_apply, up2_apply, up1_apply, bits_bot, max_eq_right bot_le, e, ← EReal.coe_sub, exp_coe]
  congr 2
  rw [negT]
  ring

/-- The weighted average of the codes: each weight is divided by their sum first. -/
theorem mix_up (E : Fin 8192 → Fin 1024 → ℝ) (C : Book) (h : ∀ i, ∑ k, E i k ≠ 0) :
    mix (up2 E) (up2 C) = up2 (fun i j => (∑ k, E i k * C k j) / ∑ k, E i k) := by
  refine ext2 fun i j => ?_
  pointwise [mix, up2_apply]
  simp only [sum_coe, zero_add, div_coe (h i), ← EReal.coe_mul]
  rw [Finset.sum_div]
  congr 1
  exact Finset.sum_congr rfl fun k _ => by ring

end Cert.ReferenceIdeal.Line
-- ==== Proof.Ref.LiftFirst.lean ====
module
public import proofs.«01_k».proof.Proof.Lift
public import proofs.«01_k».proof.Proof.Ref.Level

/-! # The reference's level over real numbers -/

@[expose] public section
set_option maxRecDepth 16384

noncomputable section

namespace Cert.ReferenceIdeal.Line
open Idealize.ShloMosaic Cert.Quant
open Cert.ReferenceIdeal Cert.ReferenceIdeal.Gen

/-- A value with its number. -/
def pr (T : Fin 1024 → ℝ) (k : Fin 1024) : Ideal .f32 × BitVec 32 := (((T k : ℝ) : EReal), BitVec.ofNat 32 k.val)

/-- The reference's comparison keeps any entry against the start value. -/
theorem step_first (T : Fin 1024 → ℝ) (k : Fin 1024) :
    reducer_argmax_f32_i32 (F := Ideal) ((⊥ : EReal), 0#32) (pr T k) = pr T k := by
  simp [reducer_argmax_f32_i32, pr, Ideal.cmpf_def, Ideal.cmp, Scalar.select, IntOp.ori, IntOp.andi]

/-- Of two entries the comparison keeps the larger, and of equal ones the one at the lesser position. -/
theorem step_pr (T : Fin 1024 → ℝ) (i k : Fin 1024) :
    reducer_argmax_f32_i32 (F := Ideal) (pr T i) (pr T k) =
      pr T (if T k < T i ∨ (T i = T k ∧ i < k) then i else k) := by
  have hlt : IntOp.cmpi .slt (BitVec.ofNat 32 i.val) (BitVec.ofNat 32 k.val) = if i < k then 1#1 else 0#1 := by
    have e : ∀ k : Fin 1024, (BitVec.ofNat 32 k.val).toInt = (k.val : Int) := fun k => by
      have h := k.isLt
      rw [BitVec.toInt_eq_toNat_of_lt] <;> simp only [BitVec.toNat_ofNat] <;> omega
    simp only [IntOp.cmpi, BitVec.slt, e, Nat.cast_lt, Fin.lt_def]
    by_cases h : i.val < k.val <;> simp [h]
  rcases lt_trichotomy (T k) (T i) with h | h | h
  · simp [reducer_argmax_f32_i32, pr, Ideal.cmpf_def, Ideal.cmp, Scalar.select, IntOp.ori, IntOp.andi, h, h.ne', hlt]
  · by_cases hik : i < k <;>
    simp [reducer_argmax_f32_i32, pr, Ideal.cmpf_def, Ideal.cmp, Scalar.select, IntOp.ori, IntOp.andi, h, hlt, hik]
  · simp [reducer_argmax_f32_i32, pr, Ideal.cmpf_def, Ideal.cmp, Scalar.select, IntOp.ori, IntOp.andi, h, h.ne, hlt, h.not_gt]

/-- The fold keeps the first largest of the numbers it has met. -/
theorem foldl_pr (T : Fin 1024 → ℝ) (l : List (Fin 1024)) (i : Fin 1024) :
    ∃ n ∈ i :: l, (l.map (pr T)).foldl (reducer_argmax_f32_i32 (F := Ideal)) (pr T i) = pr T n ∧
      ∀ k ∈ i :: l, T k < T n ∨ (T k = T n ∧ n ≤ k) := by
  induction l generalizing i with
  | nil => exact ⟨i, by simp, rfl, by simp⟩
  | cons a l ih =>
    rw [List.map_cons, List.foldl_cons, step_pr]
    by_cases h : T a < T i ∨ (T i = T a ∧ i < a)
    · rw [if_pos h]
      obtain ⟨n, hn, e, hk⟩ := ih i
      refine ⟨n, ?_, e, ?_⟩
      · rcases List.mem_cons.1 hn with h | h
        · simp [h]
        · simp [h]
      · intro k hkm
        simp only [List.mem_cons] at hkm
        rcases hkm with rfl | rfl | hkm
        · exact hk _ (by simp)
        · rcases hk i (by simp) with h1 | ⟨h1, h2⟩ <;> rcases h with h3 | ⟨h3, h4⟩
          · exact .inl (h3.trans h1)
          · exact .inl (h3 ▸ h1)
          · exact .inl (h1 ▸ h3)
          · exact .inr ⟨h3 ▸ h1, h2.trans h4.le⟩
        · exact hk _ (by simp [hkm])
    · rw [if_neg h]
      obtain ⟨n, hn, e, hk⟩ := ih a
      refine ⟨n, List.mem_cons_of_mem _ hn, e, ?_⟩
      intro k hkm
      rcases List.mem_cons.1 hkm with rfl | hkm
      · rw [not_or, not_and, not_lt, not_lt] at h
        obtain ⟨h1, h2⟩ := h
        rcases hk a (by simp) with h3 | ⟨h3, h4⟩
        · exact .inl (h1.trans_lt h3)
        · rcases h1.lt_or_eq with h5 | h5
          · exact .inl (h3 ▸ h5)
          · exact .inr ⟨h5.trans h3, h4.trans (h2 h5)⟩
      · exact hk k hkm

/-- Along the last axis a fiber lists the values with their numbers, every number among them. -/
theorem fiber_eq {a b : Nat} (h : Shape.ReducesTo ⟨2, ![a, b]⟩ [1] ⟨1, ![a]⟩) (x : FVec Ideal ⟨2, ![a, b]⟩ .f32)
    (y : IVec ⟨2, ![a, b]⟩ 32) (p : Fin b → Ideal .f32 × BitVec 32) (i : Fin a)
    (hp : ∀ k, p k = (x (ix2 i k), y (ix2 i k))) :
    ∃ l : List (Fin b), Host.argReduceFiber x y h (ix1 i) = l.map p ∧ ∀ k, k ∈ l := by
  have hdrop : ∀ z : Shape.Idx ⟨2, ![a, b]⟩, h.drop z = ix1 i ↔ z 0 = i := by
    intro z
    have hv : ((h.drop z 0 : Fin _) : Nat) = z 0 := Shape.ReducesTo.drop_apply_val_of_eq h z 0 0 (by exact Nat.one_pos) rfl
    constructor
    · intro e
      refine Fin.ext ?_
      rw [← hv, e]
      rfl
    · intro e
      rw [eq_ix1 (h.drop z)]
      exact congrArg ix1 (Fin.ext (hv.trans (congrArg Fin.val e)))
  refine ⟨((List.finRange (Shape.numel ⟨2, ![a, b]⟩)).filter
    fun n => h.drop ((Shape.rowMajor _).symm n) = ix1 i).map fun n => ((Shape.rowMajor _).symm n) 1, ?_, ?_⟩
  · unfold Host.argReduceFiber
    refine Eq.trans ?_ List.map_map.symm
    refine List.map_congr_left fun n hn => ?_
    have h0 := (hdrop _).1 (of_decide_eq_true (List.mem_filter.1 hn).2)
    have key : ∀ z : Shape.Idx ⟨2, ![a, b]⟩, z 0 = i → (x z, y z) = p (z 1) := fun z hz => by
      refine Eq.trans ?_ (hp (z 1)).symm
      rw [← hz]
      exact congrArg (fun w => (x w, y w)) (eq_ix2 z)
    exact key _ h0
  · intro k
    refine List.mem_map.2 ⟨Shape.rowMajor _ (ix2 i k), List.mem_filter.2 ⟨List.mem_finRange _, ?_⟩, ?_⟩
    · rw [Equiv.symm_apply_apply]
      exact decide_eq_true ((hdrop _).2 rfl)
    · rw [Equiv.symm_apply_apply]; rfl

/-- The operations behind the position of the largest entry. -/
theorem first_def (t : Table) : first t = fun j =>
    (Host.argReduce reducer_argmax_f32_i32 t (iotaInDim S8192x1024 32 1) (constant (F := Ideal) S_ .f32 0xFF800000#32)
      (constantI S_ 32 0#32) reducesTo_S8192x1024_S8192_d1 h_S_ j).2 := by
  delta first
  with_reducible rfl

/-- The position of the largest negative is the first position of the least entry. -/
theorem first_up (Q : Fin 8192 → Fin 1024 → ℝ) : first (up2 (negT Q)) = words (fun i => firstLeast (Q i)) := by
  refine ext1 fun i => ?_
  rw [first_def]
  beta_reduce
  rw [Ideal.argReduce_eq_reduce2, Host.reduce2_eq_foldl_fiber]
  obtain ⟨l, hl, hmem⟩ := fiber_eq reducesTo_S8192x1024_S8192_d1 (up2 (negT Q)) (iotaInDim S8192x1024 32 1)
    (pr (negT Q i)) i (fun k => rfl)
  rw [hl]
  obtain ⟨a, l', rfl⟩ : ∃ a l', l = a :: l' := by
    cases l with
    | nil => exact absurd (hmem 0) (by simp)
    | cons a l' => exact ⟨a, l', rfl⟩
  rw [List.map_cons, List.foldl_cons]
  have hs : reducer_argmax_f32_i32 (F := Ideal) (constant (F := Ideal) S_ .f32 0xFF800000#32 (Shape.Idx.first h_S_),
      constantI S_ 32 0#32 (Shape.Idx.first h_S_)) (pr (negT Q i) a) = pr (negT Q i) a := by
    rw [show constant (F := Ideal) S_ .f32 0xFF800000#32 (Shape.Idx.first h_S_) = (⊥ : EReal) from bits_bot]
    exact step_first _ a
  rw [hs]
  obtain ⟨n, -, e, hk⟩ := foldl_pr (negT Q i) l' a
  rw [e]
  have hn : n = firstLeast (Q i) := by
    refine eq_firstLeast _ _ (fun k => ?_) (fun k hlt e => ?_)
    · rcases hk k (hmem k) with h | ⟨h, -⟩
      · simp only [negT] at h; linarith
      · simp only [negT] at h; linarith
    · rcases hk k (hmem k) with h | ⟨-, h⟩
      · simp only [negT] at h; linarith
      · exact absurd hlt (not_lt.2 h)
  rw [hn]; rfl

end Cert.ReferenceIdeal.Line
-- ==== Proof.Ref.LiftPick.lean ====
module
public import proofs.«01_k».proof.Proof.Lift
public import proofs.«01_k».proof.Proof.Ref.Level

/-! # The reference's level over real numbers -/

@[expose] public section
set_option maxRecDepth 16384

noncomputable section

namespace Cert.ReferenceIdeal.Line
open Idealize.ShloMosaic Cert.Quant
open Cert.ReferenceIdeal Cert.ReferenceIdeal.Gen

/-- A word below 2³¹ is not negative, and one below 1024 is at most 1023. -/
theorem word_bounds (k : Fin 1024) :
    IntOp.cmpi .slt (BitVec.ofNat 32 k.val) 0#32 = 0#1 ∧ IntOp.cmpi .sge (BitVec.ofNat 32 k.val) 0#32 = 1#1 ∧
      IntOp.cmpi .sle (BitVec.ofNat 32 k.val) 1023#32 = 1#1 ∧ (BitVec.ofNat 32 k.val).toInt.toNat = k.val := by
  have h := k.isLt
  have ht : (BitVec.ofNat 32 k.val).toInt = (k.val : Int) := by
    rw [BitVec.toInt_eq_toNat_of_lt] <;> simp only [BitVec.toNat_ofNat] <;> omega
  have h0 : (0#32 : BitVec 32).toInt = 0 := rfl
  have h1 : (1023#32 : BitVec 32).toInt = 1023 := rfl
  refine ⟨?_, ?_, ?_, by rw [ht]; rfl⟩ <;> simp only [IntOp.cmpi, BitVec.slt, BitVec.sle, ht, h0, h1]
  · rw [decide_eq_false (by omega)]; rfl
  · rw [decide_eq_true (by omega)]; rfl
  · rw [decide_eq_true (by omega)]; rfl

/-- A position that is not negative is taken as it is. -/
theorem wrap_up (K : Fin 8192 → Fin 1024) : wrap (words K) = wordsCol K := by
  refine ext2 fun i j => ?_
  pointwise [wrap, words_apply, wordsCol_apply]
  rw [(word_bounds (K i)).1]
  rfl

/-- Every position is inside the codebook. -/
theorem inside_up (K : Fin 8192 → Fin 1024) : inside (wordsCol K) = fun _ => 1#1 := by
  refine ext1 fun i => ?_
  pointwise [inside, wordsCol_apply]
  rw [(word_bounds (K i)).2.1, (word_bounds (K i)).2.2.1]
  rfl

/-- Taking the codes at a list of positions. -/
theorem pick_up (K : Fin 8192 → Fin 1024) (C : Book) : pick (up2 C) (words K) = up2 (fun i j => C (K i) j) := by
  refine ext2 fun i j => ?_
  rw [pick, wrap_up, inside_up]
  pointwise [up2_apply]
  refine (congrArg (up2 C) (?_ : _ = ix2 (K i) j)).trans (up2_apply _ _ _)
  funext a
  refine Fin.ext ?_
  fin_cases a
  · have e : gather_S1024x256_S8192x1_S8192x256_1_0_n_n_0_1_1256.siIdx (ix2 i j : S8192x256.Idx) ⟨0, Nat.one_pos⟩ = (ix2 i 0 : S8192x1.Idx) := by
      funext b
      fin_cases b <;> rfl
    show min (wordsCol K (gather_S1024x256_S8192x1_S8192x256_1_0_n_n_0_1_1256.siIdx (ix2 i j : S8192x256.Idx) ⟨0, Nat.one_pos⟩)).toInt.toNat 1023 + 0 + 0 = (K i).val
    rw [e, wordsCol_apply, (word_bounds (K i)).2.2.2]
    have := (K i).isLt
    omega
  · show 0 + 0 + j.val = j.val
    omega

/-- The mean over the rows of the squared differences. -/
theorem meanSq_up (X Y : Fin 8192 → Row) : meanSq (up2 X) (up2 Y) = sc (Quant.sq (fun i j => X i j - Y i j) / 8192) := by
  funext k
  pointwise [meanSq, up2_apply]
  simp only [bits_rows, ← EReal.coe_sub, ← EReal.coe_mul, sum_coe]
  exact div_coe (by norm_num) _

/-- The mean over all entries of the squared differences. -/
theorem meanAll_up (X Y : Fin 8192 → Row) : meanAll (up2 X) (up2 Y) = sc (Quant.sq (fun i j => X i j - Y i j) / 2097152) := by
  funext k
  pointwise [meanAll, up2_apply]
  simp only [bits_all, ← EReal.coe_sub, ← EReal.coe_mul, sum_coe]
  exact div_coe (by norm_num) _

end Cert.ReferenceIdeal.Line
-- ==== Proof.Ref.Values.lean ====
module
public import proofs.«01_k».proof.Proof.Ref.LiftSoft
public import proofs.«01_k».proof.Proof.Ref.LiftFirst
public import proofs.«01_k».proof.Proof.Ref.LiftPick
public import proofs.«01_k».proof.Proof.Ref.Results

/-! # The reference's results over real numbers -/

@[expose] public section
set_option maxRecDepth 16384

noncomputable section

namespace Cert.ReferenceIdeal.Line
open Idealize.ShloMosaic Cert.Quant
open Cert.ReferenceIdeal Cert.ReferenceIdeal.Gen

/-- The reference's scaled distances are the negatives of the distances over the largest of them. -/
theorem rel_up (R : Fin 8192 → Row) (C : Book) (h : Spread C) :
    negNorm (diff (up2 R) (up2 C)) = up2 (negT fun i => rel C (R i)) := by
  rw [diff_up, negNorm_up _ fun i => (most_pos C (R i) h).ne']
  rfl

/-- The reference's soft combination of one level is the real one. -/
theorem soft_up (R : Fin 8192 → Row) (C : Book) (h : Spread C) :
    soft (up2 R) (up2 C) = up2 (fun i => Quant.soft C (R i)) := by
  rw [soft, rel_up R C h, expo_up]
  refine (mix_up _ _ fun i => (weight_sum_pos C (R i)).ne').trans ?_
  rfl

/-- The reference's number of the nearest code is the first nearest one. -/
theorem code_up (R : Fin 8192 → Row) (C : Book) (h : Spread C) :
    code (up2 R) (up2 C) = words (fun i => best C (R i)) := by
  rw [code, rel_up R C h, first_up]
  rfl

/-- The code the reference takes is the row less what the level leaves. -/
theorem hard_up (R : Fin 8192 → Row) (C : Book) (h : Spread C) :
    hard (up2 R) (up2 C) = up2 (fun i j => R i j - Quant.rest C (R i) j) := by
  rw [hard, code_up R C h, pick_up]
  refine ext2 fun i j => ?_
  rw [up2_apply, up2_apply, Quant.rest, sub_sub_cancel]

/-- The difference of two real tables. -/
theorem minus_up (A B : Fin 8192 → Row) : minus (up2 A) (up2 B) = up2 (fun i j => A i j - B i j) := rfl
/-- The sum of two real tables. -/
theorem plus_up (A B : Fin 8192 → Row) : plus (up2 A) (up2 B) = up2 (fun i j => A i j + B i j) := rfl
/-- The sum of two real numbers. -/
theorem plus₀_up (a b : ℝ) : plus₀ (sc a) (sc b) = sc (a + b) := rfl
/-- The zero table. -/
theorem zeros_up : zeros = up2 (fun _ _ => 0) := by
  refine ext2 fun i j => ?_
  pointwise [zeros, up2_apply]
  rfl

/-- What one level leaves of each row. -/
theorem rest_up (R : Fin 8192 → Row) (C : Book) (h : Spread C) :
    rest (up2 R) (up2 C) = up2 (fun i => Quant.rest C (R i)) := by
  rw [rest, hard_up R C h, minus_up]
  refine ext2 fun i j => ?_
  rw [up2_apply, up2_apply, sub_sub_cancel]

/-- A list of numbers as a column. -/
theorem column_up (K : Fin 8192 → Fin 1024) : column (words K) = wordsCol K := by
  refine ext2 fun i j => ?_
  pointwise [column, words_apply, wordsCol_apply]

/-- One more nearest code taken off the residual is one more added to the sum of the codes. -/
theorem take_up (A R : Fin 8192 → Row) (D : Book) (hD : Spread D) :
    plus (up2 fun i j => A i j - R i j) (hard (up2 R) (up2 D)) = up2 (fun i j => A i j - Quant.rest D (R i) j) := by
  rw [hard_up _ _ hD, plus_up]
  refine ext2 fun i j => ?_
  rw [up2_apply, up2_apply]
  congr 1; ring

section
variable (X : Fin 8192 → Row) (C : Fin 4 → Book) (h : ∀ l, Spread (C l)) (b : FVec Ideal S4x1024x256 .f32)
  (h0 : codes0 b = up2 (C 0)) (h1 : codes1 b = up2 (C 1)) (h2 : codes2 b = up2 (C 2)) (h3 : codes3 b = up2 (C 3))
include h h0 h1 h2 h3

/-- What the levels leave, one after the other. -/
theorem res_up : res1 (up2 X) b = up2 (fun i => r1 C (X i)) ∧ res2 (up2 X) b = up2 (fun i => r2 C (X i)) ∧
    res3 (up2 X) b = up2 (fun i => r3 C (X i)) := by
  have e1 : res1 (up2 X) b = up2 (fun i => r1 C (X i)) := by rw [res1, h0, rest_up _ _ (h 0)]; rfl
  have e2 : res2 (up2 X) b = up2 (fun i => r2 C (X i)) := by rw [res2, e1, h1, rest_up _ _ (h 1)]; rfl
  have e3 : res3 (up2 X) b = up2 (fun i => r3 C (X i)) := by rw [res3, e2, h2, rest_up _ _ (h 2)]; rfl
  exact ⟨e1, e2, e3⟩

/-- The running soft combinations. -/
theorem qs_up : qs1 (up2 X) b = up2 (fun i => s1 C (X i)) ∧ qs2 (up2 X) b = up2 (fun i => s2 C (X i)) ∧
    qs3 (up2 X) b = up2 (fun i => s3 C (X i)) ∧ qs4 (up2 X) b = up2 (fun i => s4 C (X i)) := by
  obtain ⟨e1, e2, e3⟩ := res_up X C h b h0 h1 h2 h3
  have f1 : qs1 (up2 X) b = up2 (fun i => s1 C (X i)) := by
    rw [qs1, h0, soft_up _ _ (h 0), zeros_up, plus_up]
    refine ext2 fun i j => ?_
    rw [up2_apply, up2_apply, zero_add, s1]
  have f2 : qs2 (up2 X) b = up2 (fun i => s2 C (X i)) := by rw [qs2, f1, e1, h1, soft_up _ _ (h 1), plus_up]; rfl
  have f3 : qs3 (up2 X) b = up2 (fun i => s3 C (X i)) := by rw [qs3, f2, e2, h2, soft_up _ _ (h 2), plus_up]; rfl
  have f4 : qs4 (up2 X) b = up2 (fun i => s4 C (X i)) := by rw [qs4, f3, e3, h3, soft_up _ _ (h 3), plus_up]; rfl
  exact ⟨f1, f2, f3, f4⟩

/-- The running hard combinations: each row less what the levels leave. -/
theorem qh_up : qh1 (up2 X) b = up2 (fun i j => X i j - r1 C (X i) j) ∧ qh2 (up2 X) b = up2 (fun i j => X i j - r2 C (X i) j) ∧
    qh3 (up2 X) b = up2 (fun i j => X i j - r3 C (X i) j) ∧ qh4 (up2 X) b = up2 (fun i j => X i j - r4 C (X i) j) := by
  obtain ⟨e1, e2, e3⟩ := res_up X C h b h0 h1 h2 h3
  have f1 : qh1 (up2 X) b = up2 (fun i j => X i j - r1 C (X i) j) := by
    rw [qh1, h0, hard_up _ _ (h 0), zeros_up, plus_up]
    refine ext2 fun i j => ?_
    rw [up2_apply, up2_apply, zero_add, r1]
  have f2 : qh2 (up2 X) b = up2 (fun i j => X i j - r2 C (X i) j) := by
    rw [qh2, f1, e1, h1, take_up _ _ _ (h 1)]; rfl
  have f3 : qh3 (up2 X) b = up2 (fun i j => X i j - r3 C (X i) j) := by
    rw [qh3, f2, e2, h2, take_up _ _ _ (h 2)]; rfl
  have f4 : qh4 (up2 X) b = up2 (fun i j => X i j - r4 C (X i) j) := by
    rw [qh4, f3, e3, h3, take_up _ _ _ (h 3)]; rfl
  exact ⟨f1, f2, f3, f4⟩

/-- The soft distortion. -/
theorem softErr_up : total (up2 X) (qs1 (up2 X) b) (qs2 (up2 X) b) (qs3 (up2 X) b) (qs4 (up2 X) b) =
    sc (softErr C X / 8192) := by
  obtain ⟨f1, f2, f3, f4⟩ := qs_up X C h b h0 h1 h2 h3
  rw [total, f1, f2, f3, f4, meanSq_up, meanSq_up, meanSq_up, meanSq_up,
    show constant (F := Ideal) S_ .f32 0x00000000#32 = sc 0 from funext fun _ => Ideal.ofBits_zero_f32,
    plus₀_up, plus₀_up, plus₀_up, plus₀_up, softErr]
  congr 1; ring

/-- The hard distortion. -/
theorem hardErr_up : total (up2 X) (qh1 (up2 X) b) (qh2 (up2 X) b) (qh3 (up2 X) b) (qh4 (up2 X) b) =
    sc (hardErr C X / 8192) := by
  obtain ⟨f1, f2, f3, f4⟩ := qh_up X C h b h0 h1 h2 h3
  rw [total, f1, f2, f3, f4, meanSq_up, meanSq_up, meanSq_up, meanSq_up,
    show constant (F := Ideal) S_ .f32 0x00000000#32 = sc 0 from funext fun _ => Ideal.ofBits_zero_f32,
    plus₀_up, plus₀_up, plus₀_up, plus₀_up, hardErr]
  simp only [sub_sub_cancel]
  congr 1; ring

/-- The error. -/
theorem lastErr_up : meanSq (up2 X) (qh4 (up2 X) b) = sc (lastErr C X / 8192) := by
  rw [(qh_up X C h b h0 h1 h2 h3).2.2.2, meanSq_up]
  simp only [sub_sub_cancel]
  rfl

/-- The joint centre term. -/
theorem jointErr_up : meanAll (qs4 (up2 X) b) (qh4 (up2 X) b) = sc (jointErr C X / 2097152) := by
  rw [(qh_up X C h b h0 h1 h2 h3).2.2.2, (qs_up X C h b h0 h1 h2 h3).2.2.2, meanAll_up]
  rfl

/-- The table of codes. -/
theorem indices_up : indices (up2 X) b = side (wordsCol fun i => best (C 0) (X i)) (wordsCol fun i => best (C 1) (r1 C (X i)))
    (wordsCol fun i => best (C 2) (r2 C (X i))) (wordsCol fun i => best (C 3) (r3 C (X i))) := by
  obtain ⟨e1, e2, e3⟩ := res_up X C h b h0 h1 h2 h3
  rw [indices, e1, e2, e3, h0, h1, h2, h3, code_up _ _ (h 0), code_up _ _ (h 1), code_up _ _ (h 2), code_up _ _ (h 3),
    column_up, column_up, column_up, column_up]

end

/-- The codes of the first level, of a stack of real codes. -/
theorem codes0_up (C : Fin 4 → Book) : codes0 (up3 C) = up2 (C 0) := by
  refine ext2 fun i j => ?_
  pointwise [codes0]
  rfl

/-- The codes of the second level, of a stack of real codes. -/
theorem codes1_up (C : Fin 4 → Book) : codes1 (up3 C) = up2 (C 1) := by
  refine ext2 fun i j => ?_
  pointwise [codes1]
  rfl

/-- The codes of the third level, of a stack of real codes. -/
theorem codes2_up (C : Fin 4 → Book) : codes2 (up3 C) = up2 (C 2) := by
  refine ext2 fun i j => ?_
  pointwise [codes2]
  rfl

/-- The codes of the fourth level, of a stack of real codes. -/
theorem codes3_up (C : Fin 4 → Book) : codes3 (up3 C) = up2 (C 3) := by
  refine ext2 fun i j => ?_
  pointwise [codes3]
  rfl

end Cert.ReferenceIdeal.Line
-- ==== Proof.Algebraic.lean ====
module

public import proofs.«01_k».proof.Proof.Pre
public import proofs.«01_k».proof.Proof.Kern.Tail
public import proofs.«01_k».proof.Proof.Ref.Values
public import proofs.«01_k».proof.Proof.Ref.Run

/-! # The kernel and the reference leave the same seven results -/

@[expose] public section

set_option maxRecDepth 16384

noncomputable section

namespace Cert.Proof

open Idealize.ShloMosaic Idealize.SL.Sem Cert.Quant

/-- The kernel's run: every row's hard and soft combinations, the four mean squared errors and every row's four codes. -/
theorem kernel_results (m : (ℓ : Loc KernelIdeal.nD KernelIdeal.τ KernelIdeal.sig) → Buf (Elt Ideal) ℓ)
    (g : Dev KernelIdeal.nD → PrngReg) (X : Dev KernelIdeal.nD → Fin 8192 → Row) (C : Dev KernelIdeal.nD → Fin 4 → Book)
    (hX : ∀ c : Dev KernelIdeal.nD, m ((c.tc : Thread KernelIdeal.nD KernelIdeal.τ).loc KernelIdeal.main_arg0) = up2 (φ := .f32) (X c))
    (hC : ∀ c : Dev KernelIdeal.nD, m ((c.tc : Thread KernelIdeal.nD KernelIdeal.τ).loc KernelIdeal.main_arg1) = up3 (φ := .f32) (C c))
    (hS : ∀ (c : Dev KernelIdeal.nD) l, Spread (C c l)) :
    θ_run (KernelIdeal.defs (F := Ideal)) (onTc (τ := KernelIdeal.τ) (KernelIdeal.main (F := Ideal))) ⟨m, fun _ => 0, g⟩
      fun r => ∀ c : Dev KernelIdeal.nD,
        r.2.mem ((c.tc : Thread KernelIdeal.nD KernelIdeal.τ).loc KernelIdeal.main_v0_0) =
          up2 (φ := .f32) (fun i j => X c i j - r4 (C c) (X c i) j)
        ∧ r.2.mem ((c.tc : Thread KernelIdeal.nD KernelIdeal.τ).loc KernelIdeal.main_v0_1) = up2 (φ := .f32) (fun i => s4 (C c) (X c i))
        ∧ r.2.mem ((c.tc : Thread KernelIdeal.nD KernelIdeal.τ).loc KernelIdeal.main_v0_2) = sc (φ := .f32) (softErr (C c) (X c) / 8192)
        ∧ r.2.mem ((c.tc : Thread KernelIdeal.nD KernelIdeal.τ).loc KernelIdeal.main_v0_3) = sc (φ := .f32) (hardErr (C c) (X c) / 8192)
        ∧ r.2.mem ((c.tc : Thread KernelIdeal.nD KernelIdeal.τ).loc KernelIdeal.main_v0_4) = sc (φ := .f32) (jointErr (C c) (X c) / 2097152)
        ∧ r.2.mem ((c.tc : Thread KernelIdeal.nD KernelIdeal.τ).loc KernelIdeal.main_v0_5) = sc (φ := .f32) (lastErr (C c) (X c) / 8192)
        ∧ r.2.mem ((c.tc : Thread KernelIdeal.nD KernelIdeal.τ).loc KernelIdeal.main_v0_6) =
            KernelIdeal.Value.side (wordsCol fun i => best (C c 0) (X c i)) (wordsCol fun i => best (C c 1) (r1 (C c) (X c i)))
              (wordsCol fun i => best (C c 2) (r2 (C c) (X c i))) (wordsCol fun i => best (C c 3) (r3 (C c) (X c i)))
        ∧ r.2.mem ((c.tc : Thread KernelIdeal.nD KernelIdeal.τ).loc KernelIdeal.main_arg0) = m ((c.tc : Thread KernelIdeal.nD KernelIdeal.τ).loc KernelIdeal.main_arg0)
        ∧ r.2.mem ((c.tc : Thread KernelIdeal.nD KernelIdeal.τ).loc KernelIdeal.main_arg1) = m ((c.tc : Thread KernelIdeal.nD KernelIdeal.τ).loc KernelIdeal.main_arg1) := by
  refine θ_run_mono (θ_run_and (KernelIdeal.Gen.run_main m g) (KernelIdeal.Gen.unchanged m g)) ?_
  rintro r ⟨hr, ha⟩ c
  obtain ⟨h2, h3, h4, h5, h6⟩ := KernelIdeal.Value.tail_up m c (X c) (C c) (hX c) (hC c) (hS c)
  exact ⟨((hr c).1 2).trans (KernelIdeal.Value.final_hard m (X c) (C c) c (hX c) (hC c) (hS c)),
    ((hr c).1 3).trans (KernelIdeal.Value.final_soft m (X c) (C c) c (hX c) (hC c) (hS c)),
    ((hr c).2 KernelIdeal.main_v0_2 (by decide)).trans h2, ((hr c).2 KernelIdeal.main_v0_3 (by decide)).trans h3,
    ((hr c).2 KernelIdeal.main_v0_4 (by decide)).trans h4, ((hr c).2 KernelIdeal.main_v0_5 (by decide)).trans h5,
    ((hr c).2 KernelIdeal.main_v0_6 (by decide)).trans h6, (ha c).1, (ha c).2⟩

/-- Wherever the precondition holds, the kernel and the reference leave equal results, all seven, over the extended reals. -/
theorem algebraic : @Cert.algebraic_KernelIdeal_ReferenceIdeal_pre_finite_and_spread Cert.KernelIdeal.Gen.facts
    Cert.ReferenceIdeal.Gen.facts Cert.Pre_finite_and_spread.facts := by
  intro m g m' g' hp hagree
  let X : Dev KernelIdeal.nD → Fin 8192 → Row := fun c i j =>
    ((m ((c.tc : Thread KernelIdeal.nD KernelIdeal.τ).loc KernelIdeal.main_arg0) : FVec Ideal ⟨2, ![8192, 256]⟩ .f32) (ix2 i j) : EReal).toReal
  let C : Dev KernelIdeal.nD → Fin 4 → Book := fun c l k j =>
    ((m ((c.tc : Thread KernelIdeal.nD KernelIdeal.τ).loc KernelIdeal.main_arg1) : FVec Ideal ⟨3, ![4, 1024, 256]⟩ .f32) (ix3 l k j) : EReal).toReal
  have hX (c : Dev KernelIdeal.nD) : m ((c.tc : Thread KernelIdeal.nD KernelIdeal.τ).loc KernelIdeal.main_arg0) = up2 (φ := .f32) (X c) :=
    Cert.Pre_finite_and_spread.rows_real _ _ (hp c).1
  have hC (c : Dev KernelIdeal.nD) : m ((c.tc : Thread KernelIdeal.nD KernelIdeal.τ).loc KernelIdeal.main_arg1) = up3 (φ := .f32) (C c) :=
    Cert.Pre_finite_and_spread.codes_real _ _ (hp c).2.1
  have hS (c : Dev KernelIdeal.nD) (l : Fin 4) : Spread (C c l) :=
    Cert.Pre_finite_and_spread.codes_spread
      (m ((c.tc : Thread KernelIdeal.nD KernelIdeal.τ).loc KernelIdeal.main_arg0)) (C c)
      ((congrArg (fun b => (Cert.Pre_finite_and_spread.fn (F := Ideal)
        (m ((c.tc : Thread KernelIdeal.nD KernelIdeal.τ).loc KernelIdeal.main_arg0)) b).2.2) (hC c).symm).trans (hp c).2.2) l
  clear_value X C
  refine ⟨_, _, _, _, _, _, _, kernel_results m g X C hX hC hS, θ_run_mono (ReferenceIdeal.Line.run_main m' g') fun r h c => ?_⟩
  obtain ⟨e0, e1, e2, e3, e4, e5, e6, e7, e8⟩ := ReferenceIdeal.Line.results (StableHlo.launchContents m' c)
    (up2 (X c)) (up3 (C c)) ((hagree c).1.trans (hX c)) ((hagree c).2.trans (hC c))
  have k0 := ReferenceIdeal.Line.codes0_up (C c)
  have k1 := ReferenceIdeal.Line.codes1_up (C c)
  have k2 := ReferenceIdeal.Line.codes2_up (C c)
  have k3 := ReferenceIdeal.Line.codes3_up (C c)
  refine ⟨(h c _).trans (e0.trans ?_), (h c _).trans (e1.trans ?_), (h c _).trans (e2.trans ?_), (h c _).trans (e3.trans ?_),
    (h c _).trans (e4.trans ?_), (h c _).trans (e5.trans ?_), (h c _).trans (e6.trans ?_),
    (h c _).trans (e7.trans ((hagree c).1.trans (hX c)).symm), (h c _).trans (e8.trans ((hagree c).2.trans (hC c)).symm)⟩
  · exact (ReferenceIdeal.Line.qh_up (X c) (C c) (hS c) _ k0 k1 k2 k3).2.2.2
  · exact (ReferenceIdeal.Line.qs_up (X c) (C c) (hS c) _ k0 k1 k2 k3).2.2.2
  · exact ReferenceIdeal.Line.softErr_up (X c) (C c) (hS c) _ k0 k1 k2 k3
  · exact ReferenceIdeal.Line.hardErr_up (X c) (C c) (hS c) _ k0 k1 k2 k3
  · exact ReferenceIdeal.Line.jointErr_up (X c) (C c) (hS c) _ k0 k1 k2 k3
  · exact ReferenceIdeal.Line.lastErr_up (X c) (C c) (hS c) _ k0 k1 k2 k3
  · exact ReferenceIdeal.Line.indices_up (X c) (C c) (hS c) _ k0 k1 k2 k3

end Cert.Proof
-- ==== Proof.lean ====
module

public import proofs.«01_k».proof.Proof.Frames
public import proofs.«01_k».proof.Proof.Algebraic

/-! # The claim -/

@[expose] public section

noncomputable section

namespace Cert.Proof

open Idealize.ShloMosaic Idealize.SL.Sem

/-- The frames, that idealizing the kernel rewrote nothing, and that the kernel's seven results are the reference's. -/
theorem claim : Cert.Claim :=
  ⟨Cert.Kernel.Gen.facts, Cert.KernelIdeal.Gen.facts, Cert.ReferenceIdeal.Gen.facts, Cert.Pre_finite_and_spread.facts,
    frame_kernel, frame_ideal, fun m g _ => frame_ideal m g trivial, frame_reference, fun m g _ => frame_reference m g trivial,
    trivial, algebraic⟩

end Cert.Proof

end
